-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x5 : Shape := ⟨2, ![16384, 5]⟩
abbrev S20x128 : Shape := ⟨2, ![20, 128]⟩
abbrev S200x128 : Shape := ⟨2, ![200, 128]⟩
abbrev S4x128 : Shape := ⟨2, ![4, 128]⟩
abbrev S10x128 : Shape := ⟨2, ![10, 128]⟩
abbrev S50x128 : Shape := ⟨2, ![50, 128]⟩
abbrev S_ : Shape := ⟨0, ![]⟩

class Facts : Prop where
  bcast_S_S16384x5 : S_.BroadcastsInDim S16384x5 (![] : Fin 0 → Fin S16384x5.rank)
  reducesTo_S16384x5_S_d0_1 : S16384x5.ReducesTo [0, 1] S_
  h_S_ : 0 < S_.numel

variable [Facts]

def fn {F : FTy → Type} [FloatOps F] (main_arg0 : IVec S16384x5 32) (main_arg1 : FVec F S20x128 .f32) (main_arg2 : FVec F S200x128 .f32) (main_arg3 : FVec F S4x128 .f32) (main_arg4 : FVec F S10x128 .f32) (main_arg5 : FVec F S50x128 .f32) : IVec S_ 1 :=
  let main_c : IVec S_ 32 := constantI S_ 32 0#32
  let main_v0 : IVec S16384x5 32 := broadcastInDim S16384x5 ![] bcast_S_S16384x5 main_c
  let main_v1 : IVec S16384x5 1 := cmpi .sge main_arg0 main_v0
  let main_c_0 : IVec S_ 32 := constantI S_ 32 4#32
  let main_v2 : IVec S16384x5 32 := broadcastInDim S16384x5 ![] bcast_S_S16384x5 main_c_0
  let main_v3 : IVec S16384x5 1 := cmpi .slt main_arg0 main_v2
  let main_v4 : IVec S16384x5 1 := andi main_v1 main_v3
  let main_c_1 : IVec S_ 1 := constantI S_ 1 1#1
  let main_v5 : IVec S_ 1 := (fun x v => Host.reduce IntOp.andi x v reducesTo_S16384x5_S_d0_1 h_S_) main_v4 main_c_1
  main_v5
-- ==== Kernel.lean ====
abbrev S16384x5 : Shape := ⟨2, ![16384, 5]⟩
abbrev S20x128 : Shape := ⟨2, ![20, 128]⟩
abbrev S200x128 : Shape := ⟨2, ![200, 128]⟩
abbrev S4x128 : Shape := ⟨2, ![4, 128]⟩
abbrev S10x128 : Shape := ⟨2, ![10, 128]⟩
abbrev S50x128 : Shape := ⟨2, ![50, 128]⟩
abbrev S5x16384 : Shape := ⟨2, ![5, 16384]⟩
abbrev S1024x128 : Shape := ⟨2, ![1024, 128]⟩
abbrev S8x128 : Shape := ⟨2, ![8, 128]⟩
abbrev S1x4x1x128 : Shape := ⟨4, ![1, 4, 1, 128]⟩
abbrev S1x4x256x128 : Shape := ⟨4, ![1, 4, 256, 128]⟩
abbrev S4x4x64x128 : Shape := ⟨4, ![4, 4, 64, 128]⟩
abbrev S16x4x16x128 : Shape := ⟨4, ![16, 4, 16, 128]⟩
abbrev S64x4x4x128 : Shape := ⟨4, ![64, 4, 4, 128]⟩
abbrev S256x4x1x128 : Shape := ⟨4, ![256, 4, 1, 128]⟩
abbrev S16384x128 : Shape := ⟨2, ![16384, 128]⟩
abbrev S5x512 : Shape := ⟨2, ![5, 512]⟩
abbrev S512x128 : Shape := ⟨2, ![512, 128]⟩
abbrev S_ : Shape := ⟨0, ![]⟩
abbrev S1x16 : Shape := ⟨2, ![1, 16]⟩
abbrev S16 : Shape := ⟨1, ![16]⟩
abbrev S128x128 : Shape := ⟨2, ![128, 128]⟩
abbrev S1x128 : Shape := ⟨2, ![1, 128]⟩
abbrev S128 : Shape := ⟨1, ![128]⟩

abbrev nBuf : Table → Nat
  | .hbm => 9
  | .local .tc .vmem => 6
  | .local .scVector .vmem => 3
  | _ => 0

abbrev bufTy : (tb : Table) → Fin (nBuf tb) → BufTy
  | .hbm, ⟨0, _⟩ => ⟨S16384x5, .i32⟩
  | .hbm, ⟨1, _⟩ => ⟨S20x128, .f32⟩
  | .hbm, ⟨2, _⟩ => ⟨S200x128, .f32⟩
  | .hbm, ⟨3, _⟩ => ⟨S4x128, .f32⟩
  | .hbm, ⟨4, _⟩ => ⟨S10x128, .f32⟩
  | .hbm, ⟨5, _⟩ => ⟨S50x128, .f32⟩
  | .hbm, ⟨6, _⟩ => ⟨S5x16384, .i32⟩
  | .hbm, ⟨7, _⟩ => ⟨S1024x128, .f32⟩
  | .hbm, ⟨8, _⟩ => ⟨S16384x128, .f32⟩
  | .local .tc .vmem, ⟨0, _⟩ => ⟨S8x128, .f32⟩
  | .local .tc .vmem, ⟨1, _⟩ => ⟨S8x128, .f32⟩
  | .local .tc .vmem, ⟨2, _⟩ => ⟨S4x128, .f32⟩
  | .local .tc .vmem, ⟨3, _⟩ => ⟨S8x128, .f32⟩
  | .local .tc .vmem, ⟨4, _⟩ => ⟨S8x128, .f32⟩
  | .local .tc .vmem, ⟨5, _⟩ => ⟨S1024x128, .f32⟩
  | .local .scVector .vmem, ⟨0, _⟩ => ⟨S5x512, .i32⟩
  | .local .scVector .vmem, ⟨1, _⟩ => ⟨S4x128, .i32⟩
  | .local .scVector .vmem, ⟨2, _⟩ => ⟨S512x128, .f32⟩
  | _, _ => ⟨S16384x5, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v0_scv : Ref sig .scVector := ⟨.hbm, 6, rfl⟩
abbrev main_v1_scv : Ref sig .scVector := ⟨.hbm, 7, rfl⟩
abbrev main_v2_scv : Ref sig .scVector := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![2, 16], ![false, false]⟩

def k1_off1 (i : grid1.Coords) : Fin 2 → Nat :=
  let c0_i32_519_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![0, v2.toNat]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_519_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x5 : Shape := ⟨2, ![16384, 5]⟩
abbrev S20x128 : Shape := ⟨2, ![20, 128]⟩
abbrev S200x128 : Shape := ⟨2, ![200, 128]⟩
abbrev S4x128 : Shape := ⟨2, ![4, 128]⟩
abbrev S10x128 : Shape := ⟨2, ![10, 128]⟩
abbrev S50x128 : Shape := ⟨2, ![50, 128]⟩
abbrev S16384x1 : Shape := ⟨2, ![16384, 1]⟩
abbrev S16384 : Shape := ⟨1, ![16384]⟩
abbrev S_ : Shape := ⟨0, ![]⟩
abbrev S1 : Shape := ⟨1, ![1]⟩
abbrev S1x1 : Shape := ⟨2, ![1, 1]⟩
abbrev S16384x128 : Shape := ⟨2, ![16384, 128]⟩

abbrev nBuf : Space → Nat
  | .hbm => 135
  | .vmem => 0
  | .smem => 0
  | _ => 0

abbrev hbmTy0_0 (i : Nat) : BufTy := match i % 128 with
  | 0 => ⟨S16384x5, .i32⟩
  | 1 => ⟨S20x128, .f32⟩
  | 2 => ⟨S200x128, .f32⟩
  | 3 => ⟨S4x128, .f32⟩
  | 4 => ⟨S10x128, .f32⟩
  | 5 => ⟨S50x128, .f32⟩
  | 6 => ⟨S16384x1, .i32⟩
  | 7 => ⟨S16384, .i32⟩
  | 8 => ⟨S_, .i32⟩
  | 9 => ⟨S16384, .i32⟩
  | 10 => ⟨S16384, .i1⟩
  | 11 => ⟨S_, .i32⟩
  | 12 => ⟨S16384, .i32⟩
  | 13 => ⟨S16384, .i32⟩
  | 14 => ⟨S16384, .i32⟩
  | 15 => ⟨S16384x1, .i32⟩
  | 16 => ⟨S1, .i32⟩
  | 17 => ⟨S_, .i32⟩
  | 18 => ⟨S16384x1, .i32⟩
  | 19 => ⟨S16384x1, .i1⟩
  | 20 => ⟨S1x1, .i32⟩
  | 21 => ⟨S16384x1, .i32⟩
  | 22 => ⟨S16384x1, .i1⟩
  | 23 => ⟨S16384x1, .i1⟩
  | 24 => ⟨S_, .i1⟩
  | 25 => ⟨S16384, .i1⟩
  | 26 => ⟨S16384x128, .f32⟩
  | 27 => ⟨S16384x128, .i1⟩
  | 28 => ⟨S_, .f32⟩
  | 29 => ⟨S16384x128, .f32⟩
  | 30 => ⟨S16384x128, .f32⟩
  | 31 => ⟨S16384x1, .i32⟩
  | 32 => ⟨S16384, .i32⟩
  | 33 => ⟨S_, .i32⟩
  | 34 => ⟨S16384, .i32⟩
  | 35 => ⟨S16384, .i1⟩
  | 36 => ⟨S_, .i32⟩
  | 37 => ⟨S16384, .i32⟩
  | 38 => ⟨S16384, .i32⟩
  | 39 => ⟨S16384, .i32⟩
  | 40 => ⟨S16384x1, .i32⟩
  | 41 => ⟨S1, .i32⟩
  | 42 => ⟨S_, .i32⟩
  | 43 => ⟨S16384x1, .i32⟩
  | 44 => ⟨S16384x1, .i1⟩
  | 45 => ⟨S1x1, .i32⟩
  | 46 => ⟨S16384x1, .i32⟩
  | 47 => ⟨S16384x1, .i1⟩
  | 48 => ⟨S16384x1, .i1⟩
  | 49 => ⟨S_, .i1⟩
  | 50 => ⟨S16384, .i1⟩
  | 51 => ⟨S16384x128, .f32⟩
  | 52 => ⟨S16384x128, .i1⟩
  | 53 => ⟨S_, .f32⟩
  | 54 => ⟨S16384x128, .f32⟩
  | 55 => ⟨S16384x128, .f32⟩
  | 56 => ⟨S16384x128, .f32⟩
  | 57 => ⟨S16384x1, .i32⟩
  | 58 => ⟨S16384, .i32⟩
  | 59 => ⟨S_, .i32⟩
  | 60 => ⟨S16384, .i32⟩
  | 61 => ⟨S16384, .i1⟩
  | 62 => ⟨S_, .i32⟩
  | 63 => ⟨S16384, .i32⟩
  | 64 => ⟨S16384, .i32⟩
  | 65 => ⟨S16384, .i32⟩
  | 66 => ⟨S16384x1, .i32⟩
  | 67 => ⟨S1, .i32⟩
  | 68 => ⟨S_, .i32⟩
  | 69 => ⟨S16384x1, .i32⟩
  | 70 => ⟨S16384x1, .i1⟩
  | 71 => ⟨S1x1, .i32⟩
  | 72 => ⟨S16384x1, .i32⟩
  | 73 => ⟨S16384x1, .i1⟩
  | 74 => ⟨S16384x1, .i1⟩
  | 75 => ⟨S_, .i1⟩
  | 76 => ⟨S16384, .i1⟩
  | 77 => ⟨S16384x128, .f32⟩
  | 78 => ⟨S16384x128, .i1⟩
  | 79 => ⟨S_, .f32⟩
  | 80 => ⟨S16384x128, .f32⟩
  | 81 => ⟨S16384x128, .f32⟩
  | 82 => ⟨S16384x128, .f32⟩
  | 83 => ⟨S16384x1, .i32⟩
  | 84 => ⟨S16384, .i32⟩
  | 85 => ⟨S_, .i32⟩
  | 86 => ⟨S16384, .i32⟩
  | 87 => ⟨S16384, .i1⟩
  | 88 => ⟨S_, .i32⟩
  | 89 => ⟨S16384, .i32⟩
  | 90 => ⟨S16384, .i32⟩
  | 91 => ⟨S16384, .i32⟩
  | 92 => ⟨S16384x1, .i32⟩
  | 93 => ⟨S1, .i32⟩
  | 94 => ⟨S_, .i32⟩
  | 95 => ⟨S16384x1, .i32⟩
  | 96 => ⟨S16384x1, .i1⟩
  | 97 => ⟨S1x1, .i32⟩
  | 98 => ⟨S16384x1, .i32⟩
  | 99 => ⟨S16384x1, .i1⟩
  | 100 => ⟨S16384x1, .i1⟩
  | 101 => ⟨S_, .i1⟩
  | 102 => ⟨S16384, .i1⟩
  | 103 => ⟨S16384x128, .f32⟩
  | 104 => ⟨S16384x128, .i1⟩
  | 105 => ⟨S_, .f32⟩
  | 106 => ⟨S16384x128, .f32⟩
  | 107 => ⟨S16384x128, .f32⟩
  | 108 => ⟨S16384x128, .f32⟩
  | 109 => ⟨S16384x1, .i32⟩
  | 110 => ⟨S16384, .i32⟩
  | 111 => ⟨S_, .i32⟩
  | 112 => ⟨S16384, .i32⟩
  | 113 => ⟨S16384, .i1⟩
  | 114 => ⟨S_, .i32⟩
  | 115 => ⟨S16384, .i32⟩
  | 116 => ⟨S16384, .i32⟩
  | 117 => ⟨S16384, .i32⟩
  | 118 => ⟨S16384x1, .i32⟩
  | 119 => ⟨S1, .i32⟩
  | 120 => ⟨S_, .i32⟩
  | 121 => ⟨S16384x1, .i32⟩
  | 122 => ⟨S16384x1, .i1⟩
  | 123 => ⟨S1x1, .i32⟩
  | 124 => ⟨S16384x1, .i32⟩
  | 125 => ⟨S16384x1, .i1⟩
  | 126 => ⟨S16384x1, .i1⟩
  | 127 => ⟨S_, .i1⟩
  | _ => ⟨S16384x5, .i32⟩

abbrev hbmTy0_1 (i : Nat) : BufTy := match i % 128 with
  | 0 => ⟨S16384, .i1⟩
  | 1 => ⟨S16384x128, .f32⟩
  | 2 => ⟨S16384x128, .i1⟩
  | 3 => ⟨S_, .f32⟩
  | 4 => ⟨S16384x128, .f32⟩
  | 5 => ⟨S16384x128, .f32⟩
  | 6 => ⟨S16384x128, .f32⟩
  | _ => ⟨S16384x5, .i32⟩

abbrev hbmTy (i : Nat) : BufTy := match i / 128 with
  | 0 => hbmTy0_0 i
  | 1 => hbmTy0_1 i
  | _ => ⟨S16384x5, .i32⟩

abbrev bufTy : (tb : Table) → Fin (tcTables nBuf tb) → BufTy
  | .hbm, ⟨i, _⟩ => hbmTy i
  | _, _ => ⟨S16384x5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_call2_cst : Ref sig .tc := ⟨.hbm, 79, rfl⟩
abbrev main_call2_v15 : Ref sig .tc := ⟨.hbm, 80, rfl⟩
abbrev main_v9 : Ref sig .tc := ⟨.hbm, 81, rfl⟩
abbrev main_v10 : Ref sig .tc := ⟨.hbm, 82, rfl⟩
abbrev main_v11 : Ref sig .tc := ⟨.hbm, 83, rfl⟩
abbrev main_v12 : Ref sig .tc := ⟨.hbm, 84, rfl⟩
abbrev main_call3_c : Ref sig .tc := ⟨.hbm, 85, rfl⟩
abbrev main_call3_v0 : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_c_1 : Ref sig .tc := ⟨.hbm, 93, rfl⟩
abbrev main_call3_c_2 : Ref sig .tc := ⟨.hbm, 94, rfl⟩
abbrev main_call3_v6 : Ref sig .tc := ⟨.hbm, 95, rfl⟩
abbrev main_call3_v7 : Ref sig .tc := ⟨.hbm, 96, rfl⟩
abbrev main_call3_v8 : Ref sig .tc := ⟨.hbm, 97, rfl⟩
abbrev main_call3_v9 : Ref sig .tc := ⟨.hbm, 98, rfl⟩
abbrev main_call3_v10 : Ref sig .tc := ⟨.hbm, 99, rfl⟩
abbrev main_call3_v11 : Ref sig .tc := ⟨.hbm, 100, rfl⟩
abbrev main_call3_c_3 : Ref sig .tc := ⟨.hbm, 101, rfl⟩
abbrev main_call3_v12 : Ref sig .tc := ⟨.hbm, 102, rfl⟩
abbrev main_call3_v13 : Ref sig .tc := ⟨.hbm, 103, rfl⟩
abbrev main_call3_v14 : Ref sig .tc := ⟨.hbm, 104, rfl⟩
abbrev main_call3_cst : Ref sig .tc := ⟨.hbm, 105, rfl⟩
abbrev main_call3_v15 : Ref sig .tc := ⟨.hbm, 106, rfl⟩
abbrev main_v13 : Ref sig .tc := ⟨.hbm, 107, rfl⟩
abbrev main_v14 : Ref sig .tc := ⟨.hbm, 108, rfl⟩
abbrev main_v15 : Ref sig .tc := ⟨.hbm, 109, rfl⟩
abbrev main_v16 : Ref sig .tc := ⟨.hbm, 110, rfl⟩
abbrev main_call4_c : Ref sig .tc := ⟨.hbm, 111, rfl⟩
abbrev main_call4_v0 : Ref sig .tc := ⟨.hbm, 112, rfl⟩
abbrev main_call4_v1 : Ref sig .tc := ⟨.hbm, 113, rfl⟩
abbrev main_call4_c_0 : Ref sig .tc := ⟨.hbm, 114, rfl⟩
abbrev main_call4_v2 : Ref sig .tc := ⟨.hbm, 115, rfl⟩
abbrev main_call4_v3 : Ref sig .tc := ⟨.hbm, 116, rfl⟩
abbrev main_call4_v4 : Ref sig .tc := ⟨.hbm, 117, rfl⟩
abbrev main_call4_v5 : Ref sig .tc := ⟨.hbm, 118, rfl⟩
abbrev main_call4_c_1 : Ref sig .tc := ⟨.hbm, 119, rfl⟩
abbrev main_call4_c_2 : Ref sig .tc := ⟨.hbm, 120, rfl⟩
abbrev main_call4_v6 : Ref sig .tc := ⟨.hbm, 121, rfl⟩
abbrev main_call4_v7 : Ref sig .tc := ⟨.hbm, 122, rfl⟩
abbrev main_call4_v8 : Ref sig .tc := ⟨.hbm, 123, rfl⟩
abbrev main_call4_v9 : Ref sig .tc := ⟨.hbm, 124, rfl⟩
abbrev main_call4_v10 : Ref sig .tc := ⟨.hbm, 125, rfl⟩
abbrev main_call4_v11 : Ref sig .tc := ⟨.hbm, 126, rfl⟩
abbrev main_call4_c_3 : Ref sig .tc := ⟨.hbm, 127, rfl⟩
abbrev main_call4_v12 : Ref sig .tc := ⟨.hbm, 128, rfl⟩
abbrev main_call4_v13 : Ref sig .tc := ⟨.hbm, 129, rfl⟩
abbrev main_call4_v14 : Ref sig .tc := ⟨.hbm, 130, rfl⟩
abbrev main_call4_cst : Ref sig .tc := ⟨.hbm, 131, rfl⟩
abbrev main_call4_v15 : Ref sig .tc := ⟨.hbm, 132, rfl⟩
abbrev main_v17 : Ref sig .tc := ⟨.hbm, 133, rfl⟩
abbrev main_v18 : Ref sig .tc := ⟨.hbm, 134, rfl⟩

abbrev nD : Nat := 1
abbrev τ : Topo := Topo.v7x

variable {F : FTy → Type} [FloatOps F]
-- ==== Proof.Pre.lean ====
/-
  What the precondition says: every feature is a word below four.
-/
module

public import proofs.«01_k».proof.Defs
public import Idealize.ShloMosaic.Lib.ReduceAll
public import Idealize.ShloMosaic.Lib.ValueIdxCore

@[expose] public section

noncomputable section

namespace Cert.Proof.Pre

open Idealize.ShloMosaic Idealize.ShloMosaic.ValueIdx Cert.Pre_in_range

/-- A word that is at least zero and below four as a signed number is below four as a natural number. -/
theorem word_small (v : BitVec 32) (e : IntOp.andi (IntOp.cmpi .sge v 0#32) (IntOp.cmpi .slt v 4#32) = 1#1) : v.toNat < 4 := by
  have both (p q : Bool) : IntOp.andi (BitVec.ofBool p) (BitVec.ofBool q) = BitVec.ofBool (p && q) := by
    cases p <;> cases q <;> decide
  have one (p : Bool) : (BitVec.ofBool p = 1#1) ↔ p = true := by cases p <;> decide
  simp only [IntOp.cmpi, both, one, Bool.and_eq_true, BitVec.sle_eq_decide, BitVec.slt_eq_decide,
    decide_eq_true_eq, BitVec.toInt_eq_toNat_cond, BitVec.toNat_ofNat, Nat.reducePow, Nat.reduceMod] at e
  omega

/-- Where the precondition's word is one, every feature is below four. -/
theorem small_of_fn {F : FTy → Type} [FloatOps F] [Facts] (x : IVec S16384x5 32) (a1 : FVec F S20x128 .f32) (a2 : FVec F S200x128 .f32)
    (a3 : FVec F S4x128 .f32) (a4 : FVec F S10x128 .f32) (a5 : FVec F S50x128 .f32) (h : fn x a1 a2 a3 a4 a5 = fun _ => 1#1)
    (i : S16384x5.Idx) : (x i).toNat < 4 := by
  dsimp only [fn] at h
  haveI : Subsingleton S_.Idx := ⟨fun a b => (eq_ix0 a).trans (eq_ix0 b).symm⟩
  have e := Host.reduce_andi_all _ _ _ _ ix0 (congrFun h ix0) i
  exact word_small _ e

end Cert.Proof.Pre

end
-- ==== Proof.Spec.lean ====
/-
  The kernel's arithmetic, apart from any program.

  Row `r` of the features has five words below 4. The kernel packs them into one code
  `((x0*256 + x1*64) + x2*16 + x3*4) + x4`, below 1024, and reads the row of that number off a table of 1024 rows.
-/
module

public import Idealize.ShloMosaic.Lib.ValueIdxCore

@[expose] public section

noncomputable section

namespace Cert.Proof.Spec

open Idealize.ShloMosaic Idealize.ShloMosaic.ValueIdx

/-- The code of five words, as the tiles compute it: additions and multiplications of 32-bit words. -/
def codeW (x0 x1 x2 x3 x4 : BitVec 32) : BitVec 32 := (((x0 * 256#32 + x1 * 64#32) + x2 * 16#32) + x3 * 4#32) + x4

/-- The code of five words below 4 is the number with these base-4 digits. -/
theorem codeW_toNat {x0 x1 x2 x3 x4 : BitVec 32} (h0 : x0.toNat < 4) (h1 : x1.toNat < 4) (h2 : x2.toNat < 4)
    (h3 : x3.toNat < 4) (h4 : x4.toNat < 4) :
    (codeW x0 x1 x2 x3 x4).toNat = 256 * x0.toNat + 64 * x1.toNat + 16 * x2.toNat + 4 * x3.toNat + x4.toNat := by
  simp only [codeW, BitVec.toNat_add, BitVec.toNat_mul, BitVec.toNat_ofNat]
  omega

/-- It is below 1024. -/
theorem codeW_lt {x0 x1 x2 x3 x4 : BitVec 32} (h0 : x0.toNat < 4) (h1 : x1.toNat < 4) (h2 : x2.toNat < 4)
    (h3 : x3.toNat < 4) (h4 : x4.toNat < 4) : (codeW x0 x1 x2 x3 x4).toNat < 1024 := by
  rw [codeW_toNat h0 h1 h2 h3 h4]; omega

/-- A word as a row of the table (reduced below 1024; a code of words below 4 is itself). -/
def rowOf (w : BitVec 32) : Fin 1024 := ⟨w.toNat % 1024, Nat.mod_lt _ (by decide)⟩

/-- The row a word below 1024 names is the row of its own number. -/
theorem rowOf_val {w : BitVec 32} (h : w.toNat < 1024) : (rowOf w).val = w.toNat := Nat.mod_eq_of_lt h

/-- The code of column `r` of the transposed features. -/
def rowCode (x : (⟨2, ![5, 16384]⟩ : Shape).Idx → BitVec 32) (r : Fin 16384) : BitVec 32 :=
  codeW (x (ix2 0 r)) (x (ix2 1 r)) (x (ix2 2 r)) (x (ix2 3 r)) (x (ix2 4 r))

/-- The code of a row whose features are below four is below 1024. -/
theorem rowCode_lt {x : (⟨2, ![5, 16384]⟩ : Shape).Idx → BitVec 32} (h : ∀ i, (x i).toNat < 4) (r : Fin 16384) :
    (rowCode x r).toNat < 1024 := codeW_lt (h _) (h _) (h _) (h _) (h _)

/-- The whole result: row `r` is the table's row of `r`'s code. -/
def outArr {α : Type} (x : (⟨2, ![5, 16384]⟩ : Shape).Idx → BitVec 32) (t : (⟨2, ![1024, 128]⟩ : Shape).Idx → α) :
    (⟨2, ![16384, 128]⟩ : Shape).Idx → α :=
  fun y => t (ix2 (rowOf (rowCode x (y 0))) (y 1))

/-- Row `b + 128 k + l` of the features, for a tile whose rows start at `b`. -/
def at512 (b : ℕ) (hb : b + 512 ≤ 16384) (r : Fin 512) : Fin 16384 := ⟨b + r.val, by have := r.isLt; omega⟩

/-- Entry `(k, l)` of a tile's list of codes: the code of its row `128 k + l`. -/
def listArr (x : (⟨2, ![5, 16384]⟩ : Shape).Idx → BitVec 32) (b : ℕ) (hb : b + 512 ≤ 16384) :
    (⟨2, ![4, 128]⟩ : Shape).Idx → BitVec 32 :=
  fun y => rowCode x (at512 b hb ⟨128 * (y 0).val + (y 1).val, by
    have h0 : (y 0).val < 4 := (y 0).isLt
    have h1 : (y 1).val < 128 := (y 1).isLt
    omega⟩)

/-- Row `r` of a tile's block: the table's row of the code of the tile's row `r`. -/
def blkArr {α : Type} (x : (⟨2, ![5, 16384]⟩ : Shape).Idx → BitVec 32) (t : (⟨2, ![1024, 128]⟩ : Shape).Idx → α) (b : ℕ)
    (hb : b + 512 ≤ 16384) : (⟨2, ![512, 128]⟩ : Shape).Idx → α :=
  fun y => outArr x t (ix2 (at512 b hb (y 0)) (y 1))

end Cert.Proof.Spec
-- ==== Proof.GatherBatch.lean ====
/-
  Several indirect gathers in flight on one DMA semaphore.

  The tiles of this kernel start four gathers on the same semaphore before they wait for any. A wait then returns once
  enough units have arrived, from whichever rows: what has landed is known only when all units have been waited for.
  So the four gathers are taken as ONE batch of row transfers (`Transfers.Batch`), a gather of `o` rows being the
  batch's next `o` transfers; this file proves the rule for issuing one of them.
-/
module

public import Idealize.ShloMosaic.Lib.Batch
public import Idealize.ShloMosaic.Lib.SparseCore.Stream

@[expose] public section

noncomputable section

namespace Cert.Proof.GatherBatch

open Idealize.ShloMosaic Idealize.ShloMosaic.SparseCore
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} {Name : Type} [DecidableEq Name]
variable {U : Type} [URA U] {Lvl : Type} [Preorder Lvl] {Λ : Labels}

local notation "𝕄" => MT nD τ sig Ix (Elt F) Name U Lvl

omit [Preorder Lvl] in
/-- What is pending from transfer `j` on is the next `o` transfers' part and what is pending from `j + o` on. -/
theorem bigSep_pending_add {n : ℕ} (Φ : Fin n → sProp 𝕄) (j o : ℕ) (h : j + o ≤ n) :
    bigSep (Transfers.pending j) Φ
      = iprop(bigSep Finset.univ (fun i : Fin o => Φ ⟨j + i.val, by omega⟩) ∗ bigSep (Transfers.pending (j + o)) Φ) := by
  have hinj : Function.Injective fun i : Fin o => (⟨j + i.val, by omega⟩ : Fin n) := fun x y hxy => by
    have h' : j + x.val = j + y.val := congrArg Fin.val hxy
    exact Fin.ext (by omega)
  have hu : Transfers.pending (n := n) j = (Finset.univ.map ⟨_, hinj⟩) ∪ Transfers.pending (j + o) := by
    ext t
    simp only [Transfers.pending, Finset.mem_filter, Finset.mem_univ, true_and, Finset.mem_union, Finset.mem_map,
      Function.Embedding.coeFn_mk]
    constructor
    · intro ht
      by_cases hto : j + o ≤ t.val
      · exact Or.inr hto
      · exact Or.inl ⟨⟨t.val - j, by omega⟩, Fin.ext (show j + (t.val - j) = t.val by omega)⟩
    · rintro (⟨i, rfl⟩ | ht)
      · exact Nat.le_add_right _ _
      · omega
  have hd : Disjoint (Finset.univ.map ⟨_, hinj⟩) (Transfers.pending (n := n) (j + o)) := by
    rw [Finset.disjoint_left]
    intro t ht ht'
    simp only [Finset.mem_map, Finset.mem_univ, true_and, Function.Embedding.coeFn_mk, Transfers.pending, Finset.mem_filter] at ht ht'
    obtain ⟨i, rfl⟩ := ht
    have hlt := i.isLt
    have ht'' : j + o ≤ j + i.val := ht'
    omega
  rw [hu, bigSep_union' hd, BI.bigSep_map]
  rfl

variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

/-- The issue of one indirect gather as the next transfers of a batch. The batch has `n` transfers of `N` units, `j`
    of them issued; the gather has one row transfer of `N` units per row of its destination (`hN`). The thread holds
    the batch, the resources `Pre t` of every transfer not yet issued (for the gather's own rows these give the
    destination's row and a share of the source, `hPre`), and a share of the offset list, each word of which is a row
    of the source (`hin`). Each row's arrival gives the batch's `D t` (`hD`): the destination's row rewritten with the
    source's row that the list names, the list's entry and the source's share. -/
theorem wp_indirectGatherBatch [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {qo : PosShare TreeShare} {fs : Buf (Elt F) (src.view.loc c)} {fd : Buf (Elt F) (dst.view.loc c)} {fo : Buf (Elt F) (offs.view.loc c)}
    (ι : Ix) {N n j u : ℕ} {D Pre : Fin n → sProp 𝕄} (qk : Fin (s.size hg.axis') → PosShare TreeShare)
    (hN : ∀ i, (dst.slice (s.rowRect hg.axis' i) (s.stride_rowRect hg.axis' i)).view.dmaCredit = N)
    (hin : ∀ x, (offs.view.read (Elt F) fo x).toNat < s₀.size hg.axis)
    (hj : j + s.size hg.axis' ≤ n) (hu : u ≤ j * N)
    (hPre : ∀ i : Fin (s.size hg.axis'), Pre ⟨j + i.val, by omega⟩
      ⊢ iprop((dst.view.loc c ↦[(dst.view.slice (s.rowRect hg.axis' i)).set]{fullShare} fd) ∗ (src.view.loc c ↦[src.view.set]{qk i} fs)))
    (hD : ∀ i : Fin (s.size hg.axis'),
      iprop(((dst.view.loc c ↦[(dst.view.slice (s.rowRect hg.axis' i)).set]{fullShare}
              ((dst.view.slice (s.rowRect hg.axis' i)).write (Elt F) fd
                (fun x => src.view.read (Elt F) fs (hg.rowIdx (rows (offs.view.read (Elt F) fo) hn hin i) x)) Finset.univ))
          ∗ (offs.view.loc c ↦[{offs.view.emb (si.rowMajor.symm (i.cast hn.symm))}]{qo} fo))
          ∗ (src.view.loc c ↦[src.view.set]{qk i} fs)) ⊢ D ⟨j + i.val, by omega⟩) :
    iprop(bigSep (Transfers.pending j) Pre ∗ (offs.view.loc c ↦[offs.view.set]{qo} fo) ∗ Transfers.Batch EC c (.dma sem) ι N D j u)
      ⊢ iprop((iprop(bigSep (Transfers.pending (j + s.size hg.axis')) Pre ∗ Transfers.Batch EC c (.dma sem) ι N D (j + s.size hg.axis') u)
              -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let r : Fin (s.size hg.axis') → Fin (s₀.size hg.axis) := rows (offs.view.read (Elt F) fo) hn hin
  let rd : Fin (s.size hg.axis') → RowDma τ sig (Elt F) c.2 sem := fun i => gatherRow c src dst hg sem hsrc he hsp hr i (r i)
  let w : (i : Fin (s.size hg.axis')) → (s.rowShape hg.axis').Idx → Elt F e := fun i x => src.view.read (Elt F) fs (hg.rowIdx (r i) x)
  have hA : S.RowsAgree := by
    intro i x x' ρ ρ' h h'
    obtain ⟨_, _, rfl⟩ := Option.map_eq_some_iff.mp h
    obtain ⟨_, _, rfl⟩ := Option.map_eq_some_iff.mp h'
    rfl
  have hrd : ∀ i, S.row i (S.word fo i) = some (rd i) := fun i => by
    change (rowOf (s₀.size hg.axis) (offs.view.read (Elt F) fo (S.entry i))).map _ = _
    rw [rowOf_of_lt (hin _)]; rfl
  have hen : Function.Bijective S.entry :=
    (si.rowMajor.symm.bijective.comp (finCongr hn.symm).bijective)
  have hsum : ∑ i, (dst.slice (s.rowRect hg.axis' i) (s.stride_rowRect hg.axis' i)).view.dmaCredit = s.size hg.axis' * N := by
    rw [Finset.sum_congr rfl fun i _ => hN i, Finset.sum_const, Finset.card_univ, Fintype.card_fin, smul_eq_mul]
  unfold Transfers.Batch
  iintro ⟨HP, Ho, ⟨%γ, %γ₀, %κ, #Hinv, HI, H0, Hcred⟩⟩ Hk
  ihave HP' := (Entails.of_eq (bigSep_pending_add Pre j _ hj)) $$ HP
  icases HP' with ⟨HPn, HPr⟩
  ihave HI' := (Entails.of_eq (bigSep_pending_add (fun t => (count EC (γ t) 0 : sProp 𝕄)) j _ hj)) $$ HI
  icases HI' with ⟨HIn, HIr⟩
  ihave Ho' := (Entails.of_eq (pointsTo_entries c offs.view S.entry hen qo fo)) $$ Ho
  iapply (wp_enqueueIndirectDma 𝒱 c bd Set.univ (qo := qo) (fo := fo) (rd := rd) ι (s.size hg.axis' * N) hA hrd hsum) $$ [HPn Ho' HIn]
  · have hrow : ∀ i : Fin (s.size hg.axis'), iprop(inv κ (Transfers.batchBody EC (c, SemLoc.dma sem) N D γ γ₀)
          ∗ ((Pre ⟨j + i.val, by omega⟩ ∗ S.heldEntry qo fo i) ∗ count EC (γ ⟨j + i.val, by omega⟩) 0))
        ⊢ iprop(S.heldEntry qo fo i ∗ (S.heldEntry qo fo i -∗ rowRes c (rd i))) := fun i => by
      iintro ⟨#Hinv, ⟨HPi, He⟩, Hγi⟩
      isplitl [He]; · iexact He
      iintro He
      ihave HP2 := (hPre i) $$ HPi
      icases HP2 with ⟨Hr, Hsq⟩
      unfold rowRes
      iexists qk i, fs, iprop((dst.view.loc c ↦[(dst.view.slice (s.rowRect hg.axis' i)).set]{fullShare} ((dst.view.slice (s.rowRect hg.axis' i)).write (Elt F) fd (w i) Finset.univ)) ∗ S.heldEntry qo fo i)
      isplitl [Hsq]; · iexact Hsq
      isplitl [Hr He]
      · iapply writeUpdate_frame
        isplitl [Hr]
        · iapply (pointsTo_writeUpdate c (v := dst.view.slice (s.rowRect hg.axis' i)) subset_rfl) $$ Hr
        · iexact He
      · rw [show (rd i).dst.view.amount (.dma sem) = N from hN i]
        iapply (Transfers.batch_creditUpdate EC (D := D) ⟨j + i.val, by omega⟩ (hD i))
        isplitr; · iexact Hinv
        iexact Hγi
    unfold Stream.res
    ihave H1 := Transfers.bigSep_sep_in Finset.univ (fun i : Fin (s.size hg.axis') => Pre ⟨j + i.val, by omega⟩) (fun i => S.heldEntry qo fo i) $$ [HPn Ho']
    · isplitl [HPn] <;> iassumption
    ihave H2 := Transfers.bigSep_sep_in Finset.univ (fun i : Fin (s.size hg.axis') => iprop(Pre ⟨j + i.val, by omega⟩ ∗ S.heldEntry qo fo i))
      (fun i : Fin (s.size hg.axis') => (count EC (γ ⟨j + i.val, by omega⟩) 0 : sProp 𝕄)) $$ [H1 HIn]
    · isplitl [H1] <;> iassumption
    iapply (Transfers.bigSep_mono_pers Finset.univ _ _ _ fun i _ => hrow i)
    isplitr; · iexact Hinv
    iexact H2
  · iintro Hcred'
    iapply Hk
    isplitl [HPr]; · iexact HPr
    iexists γ, γ₀, κ
    isplitr; · iexact Hinv
    isplitl [HIr]; · iexact HIr
    isplitl [H0]; · iexact H0
    rw [show (j + s.size hg.axis') * N - u = (j * N - u) + s.size hg.axis' * N by rw [Nat.add_mul]; omega, ← tallyAt_add]
    icombine Hcred Hcred' as H
    iexact H

end Cert.Proof.GatherBatch
-- ==== Proof.KI.Common.lean ====
/-
  The kernel as its launch sees it: names for the program, for the memory it works on, and for the parts of that memory
  each tile holds.
-/
module

public import proofs.«01_k».proof.Defs
public import proofs.«01_k».proof.Proof.Spec
public import proofs.«01_k».proof.Proof.GatherBatch
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

/-- The labels of the program, its SparseCore configuration, its definitions and their variants. -/
abbrev ΛP : Labels := Pipeline.Sig Λ₀ (Fin 1) fun p => (pcfgs (F := F) p).Adm
abbrev K : SparseCore.Cfg τ sig (ΛP (F := F)) 1 := sc (F := F)
/-- The call runs on sixteen subcores -/
theorem nSub_zero : (K (F := F)).nSub 0 = 16 := rfl
/-- of two SparseCores. -/
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch semaphores are none of the threads' own, and no buffer is shared between a SparseCore's tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' component, the pipeline's, and all of it. -/
abbrev UH : Type := URounds (GSem nD τ sig) ℕ
abbrev UP : Type := URounds (GSem nD τ sig) Unit
abbrev UU : Type := UH × (UP × Counters)

/-- The handshakes of the launch, and the transfers that stage the TensorCore kernel's blocks. -/
abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The buffers -/

/-- The arguments. -/
abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev a4Loc (d : Dev nD) : Loc nD τ sig := (SparseCore.T d).loc main_arg4
abbrev a5Loc (d : Dev nD) : Loc nD τ sig := (SparseCore.T d).loc main_arg5
/-- The transposed features, the table of 1024 rows, and the result. -/
abbrev xLoc (d : Dev nD) : Loc nD τ sig := (SparseCore.T d).loc main_v0
abbrev tLoc (d : Dev nD) : Loc nD τ sig := (SparseCore.T d).loc main_v1
abbrev oLoc (d : Dev nD) : Loc nD τ sig := (SparseCore.T d).loc main_v2

/-! ## A tile's part: 512 columns of the transposed features, 512 rows of the result -/

/-- The columns of the features fall into 32 equal parts, -/
theorem xdiv : 32 ∣ S5x16384.size 1 := ⟨512, rfl⟩
/-- and so do the rows of the result. -/
theorem odiv : 32 ∣ S16384x128.size 0 := ⟨512, rfl⟩
/-- A tile's part of each, and its places. -/
abbrev xcol (i : Fin 32) : Rect S5x16384 := Rect.part (s := S5x16384) (a₀ := 1) xdiv i
abbrev orow (i : Fin 32) : Rect S16384x128 := Rect.part (s := S16384x128) (a₀ := 0) odiv i
abbrev xColSet (i : Fin 32) : Finset S5x16384.Idx := ((Memref.whole main_v0_scv : Memref sig .scVector .hbm S5x16384 .i32).view.slice (xcol i)).set
abbrev oRowSet (i : Fin 32) : Finset S16384x128.Idx := ((Memref.whole main_v2_scv : Memref sig .scVector .hbm S16384x128 .f32).view.slice (orow i)).set

/-- The SparseCore and the subcore of a grid point. -/
abbrev cV (L : grid1.Coords) : Fin τ.nSC := (L 0).castLE hcore1
abbrev jV (L : grid1.Coords) : Fin τ.nSub := (L 1).castLE hsub1
/-- The grid's first axis is the two SparseCores, -/
theorem bound_zero : grid1.bound 0 = 2 := rfl
/-- its second the sixteen subcores. -/
theorem bound_one : grid1.bound 1 = 16 := rfl
/-- A grid point's first coordinate is below two, -/
theorem L0_lt (L : grid1.Coords) : (L 0).val < 2 := (L 0).isLt
/-- its second below sixteen. -/
theorem L1_lt (L : grid1.Coords) : (L 1).val < 16 := (L 1).isLt

/-- The tile's number, `2 * subcore + SparseCore`. -/
def wid (L : grid1.Coords) : Fin 32 := ⟨2 * (L 1).val + (L 0).val, by have := L0_lt L; have := L1_lt L; omega⟩
/-- It is that number. -/
theorem wid_val (L : grid1.Coords) : (wid L).val = 2 * (L 1).val + (L 0).val := rfl
/-- The tile's first row. -/
def base (L : grid1.Coords) : ℕ := 1024 * (L 1).val + 512 * (L 0).val
/-- Its 512 rows end within the array. -/
theorem base_le (L : grid1.Coords) : base L + 512 ≤ 16384 := by have := L0_lt L; have := L1_lt L; unfold base; omega

/-- The columns and the rows that the program's offsets name. -/
abbrev xcolK (L : grid1.Coords) : Rect S5x16384 := Rect.unit (s := S5x16384) (k1_off1 L) S5x512.size (k1_off1_inb L)
abbrev orowK (L : grid1.Coords) : Rect S16384x128 := Rect.unit (s := S16384x128) (k1_off2 L) S512x128.size (k1_off2_inb L)

/-- The columns the tile fetches are its part of the transposed features. -/
theorem xcolK_eq (L : grid1.Coords) : xcolK L = xcol (wid L) := by
  unfold xcolK xcol Rect.part Rect.block
  congr 1 <;> funext a
  · rw [k1_off1_eq]
    match a with
    | 0 => simp [Shape.partIx, Shape.partSize]
    | 1 => simp [Shape.partIx, Shape.partSize, wid]; omega
  · match a with
    | 0 => simp [Shape.partSize]
    | 1 => simp [Shape.partSize]
/-- The rows the tile writes are its part of the result. -/
theorem orowK_eq (L : grid1.Coords) : orowK L = orow (wid L) := by
  unfold orowK orow Rect.part Rect.block
  congr 1 <;> funext a
  · rw [k1_off2_eq]
    match a with
    | 0 => simp [Shape.partIx, Shape.partSize, wid]; omega
    | 1 => simp [Shape.partIx, Shape.partSize]
  · match a with
    | 0 => simp [Shape.partSize]
    | 1 => simp [Shape.partSize]

end Cert.Proof.KI
-- ==== Proof.KI.Codes.lean ====
/-
  What one tile stores: groups of sixteen codes, eight to a row of its list of 4 x 128.
-/
module

public import proofs.«01_k».proof.Proof.KI.Common

@[expose] public section

noncomputable section

namespace Cert.Proof.KI

open Cert.KernelIdeal Cert.KernelIdeal.Gen Cert.Proof.Spec
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## The buffers of a tile -/

/-- The transposed features, the table and the result, as a tile addresses them, and its scratch: the fetched columns,
    the list of codes and the block of rows. -/
abbrev xV : Memref sig Kind.scVector Space.hbm S5x16384 EltTy.i32 := Memref.whole main_v0_scv
abbrev tV : Memref sig Kind.scVector Space.hbm S1024x128 EltTy.f32 := Memref.whole main_v1_scv
abbrev oV : Memref sig Kind.scVector Space.hbm S16384x128 EltTy.f32 := Memref.whole main_v2_scv
abbrev fV : Memref sig Kind.scVector Space.vmem S5x512 EltTy.i32 := Memref.whole cc1_scratch0
abbrev lV : Memref sig Kind.scVector Space.vmem S4x128 EltTy.i32 := Memref.whole cc1_scratch1
abbrev bV : Memref sig Kind.scVector Space.vmem S512x128 EltTy.f32 := Memref.whole cc1_scratch2

/-! ## Sixteen codes -/

/-- Sixteen codes out of five vectors of sixteen words. -/
def grp [FloatOps F] (x0 x1 x2 x3 x4 : Vec F S1x16 .i32) : IVec S1x16 32 :=
  shapeCast S1x16 (addi (addi (addi (addi
    (muli (shapeCast S16 x0 shapeCasts_S1x16_S16) (broadcast S16 256#32))
    (muli (shapeCast S16 x1 shapeCasts_S1x16_S16) (broadcast S16 64#32)))
    (muli (shapeCast S16 x2 shapeCasts_S1x16_S16) (broadcast S16 16#32)))
    (muli (shapeCast S16 x3 shapeCasts_S1x16_S16) (broadcast S16 4#32)))
    (shapeCast S16 x4 shapeCasts_S1x16_S16)) shapeCasts_S16_S1x16

/-- Each of the sixteen is the code of its five words. -/
theorem grp_apply [FloatOps F] (x0 x1 x2 x3 x4 : Vec F S1x16 .i32) (x : S1x16.Idx) :
    grp x0 x1 x2 x3 x4 x = codeW (x0 x) (x1 x) (x2 x) (x3 x) (x4 x) := by
  have e : Shape.reshapeEquiv shapeCasts_S1x16_S16 (Shape.reshapeEquiv shapeCasts_S16_S1x16 x) = x := by
    rw [Shape.reshapeEquiv_reshapeEquiv, Shape.reshapeEquiv_self]
  change codeW (x0 (Shape.reshapeEquiv shapeCasts_S1x16_S16 (Shape.reshapeEquiv shapeCasts_S16_S1x16 x)))
    (x1 (Shape.reshapeEquiv shapeCasts_S1x16_S16 (Shape.reshapeEquiv shapeCasts_S16_S1x16 x)))
    (x2 (Shape.reshapeEquiv shapeCasts_S1x16_S16 (Shape.reshapeEquiv shapeCasts_S16_S1x16 x)))
    (x3 (Shape.reshapeEquiv shapeCasts_S1x16_S16 (Shape.reshapeEquiv shapeCasts_S16_S1x16 x)))
    (x4 (Shape.reshapeEquiv shapeCasts_S1x16_S16 (Shape.reshapeEquiv shapeCasts_S16_S1x16 x))) = _
  rw [e]

/-- The fetched columns of the features: row `k`, column `c` of the scratch is row `k`, column `base + c` of them. -/
def fetched (L : grid1.Coords) (f0 : S5x16384.Idx → Elt F .i32) : S5x512.Idx → Elt F .i32 := fun y => f0 ((xcolK L).emb y)

/-- Row and column of the fetched columns, as an entry of the features. -/
theorem fetched_apply (L : grid1.Coords) (f0 : S5x16384.Idx → Elt F .i32) (y : S5x512.Idx) :
    fetched L f0 y = f0 (ix2 (y 0) (at512 (base L) (base_le L) (y 1))) := by
  unfold fetched
  congr 1
  refine (eq_ix2 _).trans ?_
  congr 1 <;> apply Fin.ext
  · show k1_off1 L 0 + 1 * (y 0).val = _
    rw [k1_off1_eq]; simp
  · show k1_off1 L 1 + 1 * (y 1).val = _
    rw [k1_off1_eq]; simp [at512, base]

/-- Sixteen fetched words from row `k`, column `c` on. -/
abbrev ldv (d : Dev nD) (L : grid1.Coords) (f0 : S5x16384.Idx → Elt F .i32) (fs : Buf (Elt F) ((V d (cV L) (jV L)).loc cc1_scratch0)) (o : Fin 2 → ℕ)
    (h : ∀ a, o a + S1x16.size a ≤ S5x512.size a) : Vec F S1x16 .i32 :=
  View.readAt (Elt F) fV.view (Rect.unit (s := S5x512) o S1x16.size h).toLoadRect (View.write (Elt F) fV.view fs (fetched L f0) Finset.univ)

/-- The word of lane `x` among them is the feature at row `k` and the tile's column `c + x`. -/
theorem ldv_apply (d : Dev nD) (L : grid1.Coords) (f0 : S5x16384.Idx → Elt F .i32) (fs : Buf (Elt F) ((V d (cV L) (jV L)).loc cc1_scratch0)) (k c : ℕ)
    (h : ∀ a, (![k, c] : Fin 2 → ℕ) a + S1x16.size a ≤ S5x512.size a) (x : S1x16.Idx) (hk : k < 5) (hc : c + (x 1).val < 512) :
    ldv d L f0 fs ![k, c] h x = f0 (ix2 ⟨k, hk⟩ (at512 (base L) (base_le L) ⟨c + (x 1).val, hc⟩)) := by
  unfold ldv
  rw [View.write_whole_univ]
  refine (fetched_apply L f0 ((Rect.unit (s := S5x512) ![k, c] S1x16.size h).emb x)).trans ?_
  have hx0 : (x 0).val = 0 := by have h1 : (x 0).val < 1 := (x 0).isLt; omega
  congr 2
  · apply Fin.ext; show k + 1 * (x 0).val = k; omega
  · congr 1; apply Fin.ext; show c + 1 * (x 1).val = _; simp

/-- The group stored at row `r`, columns `c'` on, of the list, out of the words fetched at columns `128 r + c'` on, is
    the list of codes there. -/
theorem piece_ok [FloatOps F] (d : Dev nD) (L : grid1.Coords) (f0 : S5x16384.Idx → Elt F .i32) (fs : Buf (Elt F) ((V d (cV L) (jV L)).loc cc1_scratch0)) (r c' c : ℕ)
    (hc : c = 128 * r + c') (hr : r < 4) (hc' : c' + 16 ≤ 128)
    (h : ∀ a, (![r, c'] : Fin 2 → ℕ) a + S1x16.size a ≤ S4x128.size a)
    (h0 : ∀ a, (![0, c] : Fin 2 → ℕ) a + S1x16.size a ≤ S5x512.size a) (h1 : ∀ a, (![1, c] : Fin 2 → ℕ) a + S1x16.size a ≤ S5x512.size a)
    (h2 : ∀ a, (![2, c] : Fin 2 → ℕ) a + S1x16.size a ≤ S5x512.size a) (h3 : ∀ a, (![3, c] : Fin 2 → ℕ) a + S1x16.size a ≤ S5x512.size a)
    (h4 : ∀ a, (![4, c] : Fin 2 → ℕ) a + S1x16.size a ≤ S5x512.size a) (x : S1x16.Idx) :
    grp (ldv d L f0 fs ![0, c] h0) (ldv d L f0 fs ![1, c] h1) (ldv d L f0 fs ![2, c] h2) (ldv d L f0 fs ![3, c] h3) (ldv d L f0 fs ![4, c] h4) x
      = listArr f0 (base L) (base_le L) ((Rect.unit (s := S4x128) ![r, c'] S1x16.size h).emb x) := by
  have hx0 : (x 0).val = 0 := by have h1 : (x 0).val < 1 := (x 0).isLt; omega
  have hx1 : (x 1).val < 16 := (x 1).isLt
  have hcx : c + (x 1).val < 512 := by omega
  rw [grp_apply, ldv_apply _ _ _ _ _ _ _ _ (by decide) hcx, ldv_apply _ _ _ _ _ _ _ _ (by decide) hcx, ldv_apply _ _ _ _ _ _ _ _ (by decide) hcx,
    ldv_apply _ _ _ _ _ _ _ _ (by decide) hcx, ldv_apply _ _ _ _ _ _ _ _ (by decide) hcx]
  show rowCode f0 _ = rowCode f0 _
  congr 2
  apply Fin.ext
  show c + (x 1).val = 128 * (r + 1 * (x 0).val) + (c' + 1 * (x 1).val)
  omega

/-! ## A row of the list -/

/-- Row `r` of the list, as the stores reach it. -/
abbrev lR (r : ℕ) (h : ∀ a, (![r, 0] : Fin 2 → ℕ) a + S1x128.size a ≤ S4x128.size a) : Rect S4x128 := Rect.unit (s := S4x128) ![r, 0] S1x128.size h

/-- The places of row `r` of the list. -/
abbrev lRowSet (r : ℕ) (h : ∀ a, (![r, 0] : Fin 2 → ℕ) a + S1x128.size a ≤ S4x128.size a) : Finset S4x128.Idx := lV.view.setOn (lR r h).set

/-- They are the places whose row is `r`. -/
theorem mem_lRowSet {r : ℕ} {h : ∀ a, (![r, 0] : Fin 2 → ℕ) a + S1x128.size a ≤ S4x128.size a} {y : S4x128.Idx} :
    y ∈ lRowSet r h ↔ (y 0).val = r := by
  rw [show lRowSet r h = (lR r h).set from Finset.map_refl]
  constructor
  · intro hy
    obtain ⟨x, rfl⟩ := (lR r h).exists_idx_of_mem hy
    have h1 : (x 0).val < 1 := (x 0).isLt
    show r + 1 * (x 0).val = r
    omega
  · intro hy
    have hy1 : (y 1).val < 128 := (y 1).isLt
    refine (LoadRect.mem_set _).mpr ?_
    intro a
    match a with
    | 0 => exact ⟨0, Nat.one_pos, by show (y 0).val = r + 1 * 0; omega⟩
    | 1 => exact ⟨(y 1).val, hy1, by show (y 1).val = 0 + 1 * (y 1).val; omega⟩

/-- A row written in eight groups, each agreeing with `G`, holds `G`. -/
theorem row_written (d : Dev nD) (L : grid1.Coords) (r : ℕ) (h : ∀ a, (![r, 0] : Fin 2 → ℕ) a + S1x128.size a ≤ S4x128.size a)
    (fl : Buf (Elt F) ((V d (cV L) (jV L)).loc cc1_scratch1)) (G : S4x128.Idx → Elt F .i32)
    (h7 : ∀ a, (![r, 112] : Fin 2 → ℕ) a + S1x16.size a ≤ S4x128.size a) (h6 : ∀ a, (![r, 96] : Fin 2 → ℕ) a + S1x16.size a ≤ S4x128.size a)
    (h5 : ∀ a, (![r, 80] : Fin 2 → ℕ) a + S1x16.size a ≤ S4x128.size a) (h4 : ∀ a, (![r, 64] : Fin 2 → ℕ) a + S1x16.size a ≤ S4x128.size a)
    (h3 : ∀ a, (![r, 48] : Fin 2 → ℕ) a + S1x16.size a ≤ S4x128.size a) (h2 : ∀ a, (![r, 32] : Fin 2 → ℕ) a + S1x16.size a ≤ S4x128.size a)
    (h1 : ∀ a, (![r, 16] : Fin 2 → ℕ) a + S1x16.size a ≤ S4x128.size a) (h0 : ∀ a, (![r, 0] : Fin 2 → ℕ) a + S1x16.size a ≤ S4x128.size a)
    (p7 p6 p5 p4 p3 p2 p1 p0 : S1x16.Idx → Elt F .i32)
    (e7 : ∀ x, p7 x = G ((Rect.unit (s := S4x128) ![r, 112] S1x16.size h7).emb x)) (e6 : ∀ x, p6 x = G ((Rect.unit (s := S4x128) ![r, 96] S1x16.size h6).emb x))
    (e5 : ∀ x, p5 x = G ((Rect.unit (s := S4x128) ![r, 80] S1x16.size h5).emb x)) (e4 : ∀ x, p4 x = G ((Rect.unit (s := S4x128) ![r, 64] S1x16.size h4).emb x))
    (e3 : ∀ x, p3 x = G ((Rect.unit (s := S4x128) ![r, 48] S1x16.size h3).emb x)) (e2 : ∀ x, p2 x = G ((Rect.unit (s := S4x128) ![r, 32] S1x16.size h2).emb x))
    (e1 : ∀ x, p1 x = G ((Rect.unit (s := S4x128) ![r, 16] S1x16.size h1).emb x)) (e0 : ∀ x, p0 x = G ((Rect.unit (s := S4x128) ![r, 0] S1x16.size h0).emb x)) :
    (lV.view.loc (V d (cV L) (jV L)) ↦[lV.view.setOn (lR r h).set]{fullShare} lV.view.writes (Elt F) fl
        [⟨Rect.unit (s := S4x128) ![r, 112] S1x16.size h7, p7⟩, ⟨Rect.unit (s := S4x128) ![r, 96] S1x16.size h6, p6⟩,
         ⟨Rect.unit (s := S4x128) ![r, 80] S1x16.size h5, p5⟩, ⟨Rect.unit (s := S4x128) ![r, 64] S1x16.size h4, p4⟩,
         ⟨Rect.unit (s := S4x128) ![r, 48] S1x16.size h3, p3⟩, ⟨Rect.unit (s := S4x128) ![r, 32] S1x16.size h2, p2⟩,
         ⟨Rect.unit (s := S4x128) ![r, 16] S1x16.size h1, p1⟩, ⟨Rect.unit (s := S4x128) ![r, 0] S1x16.size h0, p0⟩] : sProp 𝕄)
      = lV.view.loc (V d (cV L) (jV L)) ↦[lV.view.setOn (lR r h).set]{fullShare} G := by
  refine pointsTo_congr fun y hy => ?_
  have hy0 : (y 0).val = r := mem_lRowSet.mp hy
  have hy1 : (y 1).val < 128 := (y 1).isLt
  refine (show ∀ Ls, View.read (Elt F) lV.view (lV.view.writes (Elt F) fl Ls) y = G y → lV.view.writes (Elt F) fl Ls y = G y from fun _ h => h) _ ?_
  refine View.read_writes_apply_of_pieces lV.view fl G _ ?_ y ?_
  · intro p hp
    simp only [List.mem_cons, List.not_mem_nil, or_false] at hp
    rcases hp with rfl | rfl | rfl | rfl | rfl | rfl | rfl | rfl
    exacts [e7, e6, e5, e4, e3, e2, e1, e0]
  · have key : ∀ (c : ℕ) (hh : ∀ a, (![r, c] : Fin 2 → ℕ) a + S1x16.size a ≤ S4x128.size a), c ≤ (y 1).val → (y 1).val < c + 16 →
        y ∈ (Rect.unit (s := S4x128) ![r, c] S1x16.size hh).set := by
      intro c hh hl hu
      refine (LoadRect.mem_set _).mpr ?_
      intro a
      match a with
      | 0 => exact ⟨0, Nat.one_pos, by show (y 0).val = r + 1 * 0; omega⟩
      | 1 => exact ⟨(y 1).val - c, by show (y 1).val - c < 16; omega, by show (y 1).val = c + 1 * ((y 1).val - c); omega⟩
    simp only [List.mem_cons, List.not_mem_nil, or_false, exists_eq_or_imp, exists_eq_left]
    by_cases a7 : 112 ≤ (y 1).val
    · exact .inl (key 112 h7 a7 (by omega))
    by_cases a6 : 96 ≤ (y 1).val
    · exact .inr (.inl (key 96 h6 a6 (by omega)))
    by_cases a5 : 80 ≤ (y 1).val
    · exact .inr (.inr (.inl (key 80 h5 a5 (by omega))))
    by_cases a4 : 64 ≤ (y 1).val
    · exact .inr (.inr (.inr (.inl (key 64 h4 a4 (by omega)))))
    by_cases a3 : 48 ≤ (y 1).val
    · exact .inr (.inr (.inr (.inr (.inl (key 48 h3 a3 (by omega))))))
    by_cases a2 : 32 ≤ (y 1).val
    · exact .inr (.inr (.inr (.inr (.inr (.inl (key 32 h2 a2 (by omega)))))))
    by_cases a1 : 16 ≤ (y 1).val
    · exact .inr (.inr (.inr (.inr (.inr (.inr (.inl (key 16 h1 a1 (by omega))))))))
    · exact .inr (.inr (.inr (.inr (.inr (.inr (.inr (key 0 h0 (by omega) (by omega))))))))

/-- The same with the agreement asked for afterwards. -/
theorem row_restate (d : Dev nD) (L : grid1.Coords) (G : S4x128.Idx → Elt F .i32) (r : ℕ) (h : ∀ a, (![r, 0] : Fin 2 → ℕ) a + S1x128.size a ≤ S4x128.size a)
    (fl : Buf (Elt F) ((V d (cV L) (jV L)).loc cc1_scratch1))
    (h7 : ∀ a, (![r, 112] : Fin 2 → ℕ) a + S1x16.size a ≤ S4x128.size a) (h6 : ∀ a, (![r, 96] : Fin 2 → ℕ) a + S1x16.size a ≤ S4x128.size a)
    (h5 : ∀ a, (![r, 80] : Fin 2 → ℕ) a + S1x16.size a ≤ S4x128.size a) (h4 : ∀ a, (![r, 64] : Fin 2 → ℕ) a + S1x16.size a ≤ S4x128.size a)
    (h3 : ∀ a, (![r, 48] : Fin 2 → ℕ) a + S1x16.size a ≤ S4x128.size a) (h2 : ∀ a, (![r, 32] : Fin 2 → ℕ) a + S1x16.size a ≤ S4x128.size a)
    (h1 : ∀ a, (![r, 16] : Fin 2 → ℕ) a + S1x16.size a ≤ S4x128.size a) (h0 : ∀ a, (![r, 0] : Fin 2 → ℕ) a + S1x16.size a ≤ S4x128.size a)
    (p7 p6 p5 p4 p3 p2 p1 p0 : S1x16.Idx → Elt F .i32) :
    (lV.view.loc (V d (cV L) (jV L)) ↦[lV.view.setOn (lR r h).set]{fullShare} lV.view.writes (Elt F) fl
        [⟨Rect.unit (s := S4x128) ![r, 112] S1x16.size h7, p7⟩, ⟨Rect.unit (s := S4x128) ![r, 96] S1x16.size h6, p6⟩,
         ⟨Rect.unit (s := S4x128) ![r, 80] S1x16.size h5, p5⟩, ⟨Rect.unit (s := S4x128) ![r, 64] S1x16.size h4, p4⟩,
         ⟨Rect.unit (s := S4x128) ![r, 48] S1x16.size h3, p3⟩, ⟨Rect.unit (s := S4x128) ![r, 32] S1x16.size h2, p2⟩,
         ⟨Rect.unit (s := S4x128) ![r, 16] S1x16.size h1, p1⟩, ⟨Rect.unit (s := S4x128) ![r, 0] S1x16.size h0, p0⟩] : sProp 𝕄)
      ⊢ iprop(⌜(∀ x, p7 x = G ((Rect.unit (s := S4x128) ![r, 112] S1x16.size h7).emb x))
          ∧ (∀ x, p6 x = G ((Rect.unit (s := S4x128) ![r, 96] S1x16.size h6).emb x))
          ∧ (∀ x, p5 x = G ((Rect.unit (s := S4x128) ![r, 80] S1x16.size h5).emb x))
          ∧ (∀ x, p4 x = G ((Rect.unit (s := S4x128) ![r, 64] S1x16.size h4).emb x))
          ∧ (∀ x, p3 x = G ((Rect.unit (s := S4x128) ![r, 48] S1x16.size h3).emb x))
          ∧ (∀ x, p2 x = G ((Rect.unit (s := S4x128) ![r, 32] S1x16.size h2).emb x))
          ∧ (∀ x, p1 x = G ((Rect.unit (s := S4x128) ![r, 16] S1x16.size h1).emb x))
          ∧ (∀ x, p0 x = G ((Rect.unit (s := S4x128) ![r, 0] S1x16.size h0).emb x))⌝
        -∗ (lV.view.loc (V d (cV L) (jV L)) ↦[lV.view.setOn (lR r h).set]{fullShare} G)) := by
  iintro H %hp
  obtain ⟨e7, e6, e5, e4, e3, e2, e1, e0⟩ := hp
  ihave H' := (Entails.of_eq (row_written d L r h fl G h7 h6 h5 h4 h3 h2 h1 h0 p7 p6 p5 p4 p3 p2 p1 p0 e7 e6 e5 e4 e3 e2 e1 e0)) $$ H
  iexact H'

/-! ## The list by rows, by entries -/

/-- Row `k` lies inside the list. -/
theorem lrow_inb (k : Fin 4) (a : Fin 2) : (![k.val, 0] : Fin 2 → ℕ) a + S1x128.size a ≤ S4x128.size a := by
  have := k.isLt
  match a with
  | 0 => show k.val + 1 ≤ 4; omega
  | 1 => show 0 + 128 ≤ 128; omega

/-- The list's four rows are the list. -/
theorem list_rows (d : Dev nD) (L : grid1.Coords) (f : Buf (Elt F) ((V d (cV L) (jV L)).loc cc1_scratch1)) :
    ((V d (cV L) (jV L)).loc cc1_scratch1 ↦{fullShare} f : sProp 𝕄)
      = bigSep Finset.univ fun k : Fin 4 => (V d (cV L) (jV L)).loc cc1_scratch1 ↦[lRowSet k.val (lrow_inb k)]{fullShare} f := by
  have hd : ∀ i ∈ (Finset.univ : Finset (Fin 4)), ∀ j ∈ (Finset.univ : Finset (Fin 4)), i ≠ j →
      Disjoint (lRowSet i.val (lrow_inb i)) (lRowSet j.val (lrow_inb j)) := by
    intro i _ j _ hij
    refine Finset.disjoint_left.mpr fun y hy hy' => hij (Fin.ext ?_)
    rw [← mem_lRowSet.mp hy, ← mem_lRowSet.mp hy']
  have hc : (Finset.univ : Finset (Fin 4)).biUnion (fun i => lRowSet i.val (lrow_inb i)) = Finset.univ :=
    Finset.eq_univ_iff_forall.mpr fun y => Finset.mem_biUnion.mpr ⟨y 0, Finset.mem_univ _, mem_lRowSet.mpr rfl⟩
  rw [← pointsTo_biUnion Finset.univ (ℓ := (V d (cV L) (jV L)).loc cc1_scratch1) (fun i : Fin 4 => lRowSet i.val (lrow_inb i)) hd, hc]

/-- Four resources, one by one. -/
theorem bigSep_fin4 (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide), SparseCore.bigSep_insert' (by decide),
    SparseCore.bigSep_insert' (by decide), bigSep_singleton]

/-- The list as the tile's four row windows. -/
theorem pts_lV (d : Dev nD) (L : grid1.Coords) (f : Buf (Elt F) ((V d (cV L) (jV L)).loc cc1_scratch1)) :
    ((V d (cV L) (jV L)).loc cc1_scratch1 ↦{fullShare} f : sProp 𝕄)
      = iprop((lV.view.loc (V d (cV L) (jV L)) ↦[lV.view.setOn (lR 0 inb_S4x128_S1x128_0_0).set]{fullShare} f)
        ∗ (lV.view.loc (V d (cV L) (jV L)) ↦[lV.view.setOn (lR 1 inb_S4x128_S1x128_1_0).set]{fullShare} f)
        ∗ (lV.view.loc (V d (cV L) (jV L)) ↦[lV.view.setOn (lR 2 inb_S4x128_S1x128_2_0).set]{fullShare} f)
        ∗ (lV.view.loc (V d (cV L) (jV L)) ↦[lV.view.setOn (lR 3 inb_S4x128_S1x128_3_0).set]{fullShare} f)) :=
  (list_rows d L f).trans (bigSep_fin4 _)

end Cert.Proof.KI
-- ==== Proof.KI.Rows.lean ====
/-
  The rows of a tile's block that its four gathers deliver, and the entries of the list that name them.
-/
module

public import proofs.«01_k».proof.Proof.KI.Codes

@[expose] public section

noncomputable section

namespace Cert.Proof.KI

open Cert.KernelIdeal Cert.KernelIdeal.Gen Cert.Proof.Spec
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-! ## Rows, entries -/

/-- Row `t` of the block. -/
abbrev bRow (t : Fin 512) : Finset S512x128.Idx := (bV.view.slice (S512x128.rowRect 0 t)).set

/-- Its places are those whose row is `t`. -/
theorem mem_bRow {t : Fin 512} {y : S512x128.Idx} : y ∈ bRow t ↔ y 0 = t := by
  constructor
  · intro hy
    obtain ⟨x, -, rfl⟩ := Finset.mem_map.mp hy
    exact Shape.rowRect_emb_axis (s := S512x128) 0 t x
  · rintro rfl
    exact Finset.mem_map.mpr ⟨S512x128.rowProj 0 y, Finset.mem_univ _, Shape.rowRect_emb_rowProj (s := S512x128) 0 y⟩

/-- The list's entry that names row `t`. -/
def elt (t : Fin 512) : S4x128.Idx := ix2 ⟨t.val / 128, by have := t.isLt; omega⟩ ⟨t.val % 128, Nat.mod_lt _ (by decide)⟩

/-- The entry of row `t` is the code of the tile's row `t`. -/
theorem listArr_elt (x : S5x16384.Idx → BitVec 32) (b : ℕ) (hb : b + 512 ≤ 16384) (t : Fin 512) :
    listArr x b hb (elt t) = rowCode x (at512 b hb t) := by
  unfold listArr elt
  congr 2
  apply Fin.ext
  show 128 * (t.val / 128) + t.val % 128 = t.val
  omega

/-! ## The three memrefs of a gather -/

/-- The table whole, 128 rows of the block from `o` on, and row `k` of the list. -/
abbrev srcK : Memref sig .scVector .hbm S1024x128 .f32 :=
  tV.slice (Rect.unit (s := S1024x128) ![0, 0] S1024x128.size inb_S1024x128_S1024x128_0_0) (fun _ => rfl)
abbrev dstK (o : ℕ) (h : ∀ a, (![o, 0] : Fin 2 → ℕ) a + S128x128.size a ≤ S512x128.size a) : Memref sig .scVector .vmem S128x128 .f32 :=
  bV.slice (Rect.unit (s := S512x128) ![o, 0] S128x128.size h) (fun _ => rfl)
abbrev offK (k : ℕ) (h : ∀ a, (![k, 0] : Fin 2 → ℕ) a + S1x128.size a ≤ S4x128.size a) : Memref sig .scVector .vmem S128 .i32 :=
  (lV.slice (Rect.unit (s := S4x128) ![k, 0] S1x128.size h) (fun _ => rfl)).squeeze S128 squeezes_S1x128_S128

/-- The table's memref is at every place the table itself, -/
theorem srcK_emb (y : S1024x128.Idx) : srcK.view.emb y = y := by
  refine Rect.emb_eq_of_coords (Rect.unit (s := S1024x128) ![0, 0] S1024x128.size inb_S1024x128_S1024x128_0_0) y y fun a => ?_
  match a with
  | 0 => show (y 0).val = 0 + 1 * (y 0).val; omega
  | 1 => show (y 1).val = 0 + 1 * (y 1).val; omega

/-- so it covers the table. -/
theorem set_srcK : srcK.view.set = (Finset.univ : Finset S1024x128.Idx) :=
  Finset.eq_univ_iff_forall.mpr fun y => Finset.mem_map.mpr ⟨y, Finset.mem_univ _, srcK_emb y⟩

/-- The list's memref covers row `k` of the list. -/
theorem set_offK (k : ℕ) (h : ∀ a, (![k, 0] : Fin 2 → ℕ) a + S1x128.size a ≤ S4x128.size a) : (offK k h).view.set = lRowSet k h := by
  show ((lV.view.slice (lR k h)).reshape S128 squeezes_S1x128_S128.numel_eq).set = _
  rw [View.set_reshape, View.set_slice]
  rfl

/-- Place `j` of row `k` of the list, squeezed. -/
theorem offK_emb (k : ℕ) (h : ∀ a, (![k, 0] : Fin 2 → ℕ) a + S1x128.size a ≤ S4x128.size a) (hk : k < 4) (j : S128.Idx) :
    (offK k h).view.emb j = ix2 (⟨k, hk⟩ : Fin 4) (j 0) := by
  show (lR k h).emb (Shape.reshapeEquiv squeezes_S1x128_S128.numel_eq j) = _
  have e : Shape.reshapeEquiv squeezes_S1x128_S128.numel_eq j = (ix2 (0 : Fin 1) (j 0) : S1x128.Idx) :=
    Shape.reshapeEquiv_eq_of_rowMajor _ (by
      rw [Shape.rowMajor_val_one, Shape.rowMajor_val_two]
      show 0 * 128 + (j 0).val = (j 0).val
      omega)
  rw [e]
  refine Rect.emb_eq_of_coords _ _ _ fun a => ?_
  match a with
  | 0 => show k = k + 1 * 0; omega
  | 1 => show (j 0).val = 0 + 1 * (j 0).val; omega

/-- Its `i`-th place is the entry that names row `o + i` of the block. -/
theorem offK_entry (k o : ℕ) (ho : o = 128 * k) (h : ∀ a, (![k, 0] : Fin 2 → ℕ) a + S1x128.size a ≤ S4x128.size a) (hk : k < 4)
    (i : Fin S128.numel) (hi : o + i.val < 512) : (offK k h).view.emb (S128.rowMajor.symm i) = elt ⟨o + i.val, hi⟩ := by
  have hi' : i.val < 128 := lt_of_lt_of_eq i.isLt (by decide)
  have e : ((S128.rowMajor.symm i) 0).val = i.val := by
    have := Shape.rowMajor_val_one (i := S128.rowMajor.symm i)
    rw [Equiv.apply_symm_apply] at this
    exact this.symm
  rw [offK_emb k h hk]
  unfold elt
  congr 1 <;> apply Fin.ext
  · show k = (o + i.val) / 128; omega
  · show ((S128.rowMajor.symm i) 0).val = (o + i.val) % 128; rw [e]; omega

/-- Row `i` of a gather's 128 rows is the block's row `o + i`. -/
theorem dstK_row (o : ℕ) (h : ∀ a, (![o, 0] : Fin 2 → ℕ) a + S128x128.size a ≤ S512x128.size a) (i : Fin 128) (hi : o + i.val < 512) :
    ((dstK o h).view.slice (S128x128.rowRect 0 i)).set = bRow ⟨o + i.val, hi⟩ := by
  ext y
  rw [mem_bRow]
  constructor
  · intro hy
    obtain ⟨x, -, rfl⟩ := Finset.mem_map.mp hy
    apply Fin.ext
    have := Shape.rowRect_emb_axis (s := S128x128) 0 i x
    show o + 1 * ((S128x128.rowRect 0 i).emb x 0).val = o + i.val
    rw [this]; omega
  · intro hy
    have hy0 : (y 0).val = o + i.val := congrArg Fin.val hy
    let z : S128x128.Idx := ix2 i (y 1)
    refine Finset.mem_map.mpr ⟨S128x128.rowProj 0 z, Finset.mem_univ _, ?_⟩
    show (Rect.unit (s := S512x128) ![o, 0] S128x128.size h).emb ((S128x128.rowRect 0 (z 0)).emb (S128x128.rowProj 0 z)) = y
    rw [Shape.rowRect_emb_rowProj]
    refine Rect.emb_eq_of_coords _ _ _ fun a => ?_
    match a with
    | 0 => show (y 0).val = o + 1 * i.val; omega
    | 1 => show (y 1).val = 0 + 1 * (y 1).val; omega

/-- The row a gather lands is the block's: the table's row of the code the list's entry holds. -/
theorem dstK_lands (k o : ℕ) (ho : o = 128 * k) (hk : k < 4) (h : ∀ a, (![k, 0] : Fin 2 → ℕ) a + S1x128.size a ≤ S4x128.size a)
    (h' : ∀ a, (![o, 0] : Fin 2 → ℕ) a + S128x128.size a ≤ S512x128.size a)
    (f0 : S5x16384.Idx → Elt F .i32) (hf : ∀ i, BitVec.toNat (f0 i : BitVec 32) < 4) (t : S1024x128.Idx → Elt F .f32) (b : ℕ) (hb : b + 512 ≤ 16384)
    (fb : S512x128.Idx → Elt F .f32) (hin) (i : Fin 128) (hi : o + i.val < 512) (y : S512x128.Idx) (hy : y ∈ bRow ⟨o + i.val, hi⟩) :
    ((dstK o h').view.slice (S128x128.rowRect 0 i)).write (Elt F) fb
      (fun x => srcK.view.read (Elt F) t (gathers_S1024x128_S128x128.rowIdx
        (SparseCore.rows ((offK k h).view.read (Elt F) (listArr f0 b hb)) (show S128.numel = 128 from rfl) hin i) x)) Finset.univ y
      = blkArr f0 t b hb y := by
  rw [← dstK_row o h' i hi] at hy
  obtain ⟨x, -, rfl⟩ := Finset.mem_map.mp hy
  rw [View.write_emb_of_mem _ _ (Finset.mem_univ _)]
  have hrow : (SparseCore.rows ((offK k h).view.read (Elt F) (listArr f0 b hb)) (show S128.numel = 128 from rfl) hin i : Fin 1024)
      = rowOf (rowCode f0 (at512 b hb ⟨o + i.val, hi⟩)) := by
    apply Fin.ext
    rw [rowOf_val (rowCode_lt hf _)]
    show BitVec.toNat ((offK k h).view.read (Elt F) (listArr f0 b hb) (S128.rowMajor.symm (i.cast _))) = _
    rw [View.read_apply, offK_entry k o ho h hk (i.cast _) hi]
    exact congrArg BitVec.toNat (listArr_elt f0 b hb _)
  have hx0 := congrArg Fin.val (Shape.rowRect_emb_axis (s := S128x128) 0 i x)
  have hx1 := Shape.rowRect_emb_of_ne (s := S128x128) 0 i x (b := 1) (by decide)
  refine (congrArg t (srcK_emb _)).trans ?_
  have e0 : ((dstK o h').view.slice (S128x128.rowRect 0 i)).emb x 0 = (⟨o + i.val, hi⟩ : Fin 512) := by
    apply Fin.ext
    show o + 1 * ((S128x128.rowRect 0 i).emb x 0).val = o + i.val
    rw [hx0]; omega
  have e1 : (((dstK o h').view.slice (S128x128.rowRect 0 i)).emb x 1).val = (x 1).val := by
    show 0 + 1 * ((S128x128.rowRect 0 i).emb x 1).val = _
    rw [hx1]; omega
  show _ = t (ix2 (rowOf (rowCode f0 (at512 b hb (((dstK o h').view.slice (S128x128.rowRect 0 i)).emb x 0)))) (((dstK o h').view.slice (S128x128.rowRect 0 i)).emb x 1))
  rw [e0]
  congr 1
  refine (eq_ix2 _).trans ?_
  refine congr (congrArg ix2 ((Shape.Gathers.rowIdx_axis gathers_S1024x128_S128x128 _ x).trans hrow)) ?_
  · apply Fin.ext
    rw [e1]
    exact Shape.Gathers.rowIdx_of_ne gathers_S1024x128_S128x128 _ x 1 (by decide)

/-- Every word of the list's row `k` names a row of the table. -/
theorem offK_lt (k : ℕ) (h : ∀ a, (![k, 0] : Fin 2 → ℕ) a + S1x128.size a ≤ S4x128.size a)
    (f0 : S5x16384.Idx → Elt F .i32) (hf : ∀ i, BitVec.toNat (f0 i : BitVec 32) < 4) (b : ℕ) (hb : b + 512 ≤ 16384) (x : S128.Idx) :
    BitVec.toNat ((offK k h).view.read (Elt F) (listArr f0 b hb) x) < S1024x128.size gathers_S1024x128_S128x128.axis := by
  rw [View.read_apply]
  exact rowCode_lt hf _

/-! ## Rows, entries, shares together -/

/-- The block's rows are the block. -/
theorem block_rows (d : Dev nD) (L : grid1.Coords) (f : Buf (Elt F) ((V d (cV L) (jV L)).loc cc1_scratch2)) :
    ((V d (cV L) (jV L)).loc cc1_scratch2 ↦{fullShare} f : sProp 𝕄)
      = bigSep Finset.univ fun t : Fin 512 => (V d (cV L) (jV L)).loc cc1_scratch2 ↦[bRow t]{fullShare} f := by
  have hd : ∀ i ∈ (Finset.univ : Finset (Fin 512)), ∀ j ∈ (Finset.univ : Finset (Fin 512)), i ≠ j → Disjoint (bRow i) (bRow j) := by
    intro i _ j _ hij
    refine Finset.disjoint_left.mpr fun y hy hy' => hij ?_
    rw [← mem_bRow.mp hy, ← mem_bRow.mp hy']
  have hc : (Finset.univ : Finset (Fin 512)).biUnion bRow = Finset.univ :=
    Finset.eq_univ_iff_forall.mpr fun y => Finset.mem_biUnion.mpr ⟨y 0, Finset.mem_univ _, mem_bRow.mpr rfl⟩
  rw [← pointsTo_biUnion Finset.univ (ℓ := (V d (cV L) (jV L)).loc cc1_scratch2) bRow hd, hc]

/-- The list's entries are the list. -/
theorem list_entries (d : Dev nD) (L : grid1.Coords) (f : Buf (Elt F) ((V d (cV L) (jV L)).loc cc1_scratch1)) :
    ((V d (cV L) (jV L)).loc cc1_scratch1 ↦{fullShare} f : sProp 𝕄)
      = bigSep Finset.univ fun t : Fin 512 => (V d (cV L) (jV L)).loc cc1_scratch1 ↦[{elt t}]{fullShare} f := by
  have hd : ∀ i ∈ (Finset.univ : Finset (Fin 512)), ∀ j ∈ (Finset.univ : Finset (Fin 512)), i ≠ j →
      Disjoint ({elt i} : Finset S4x128.Idx) {elt j} := by
    intro i _ j _ hij
    refine Finset.disjoint_singleton.mpr fun e => hij (Fin.ext ?_)
    have h0 : i.val / 128 = j.val / 128 := congrArg Fin.val (congrFun e 0)
    have h1 : i.val % 128 = j.val % 128 := congrArg Fin.val (congrFun e 1)
    omega
  have hc : (Finset.univ : Finset (Fin 512)).biUnion (fun t => ({elt t} : Finset S4x128.Idx)) = Finset.univ := by
    refine Finset.eq_univ_iff_forall.mpr fun y => Finset.mem_biUnion.mpr ?_
    have h0 : (y 0).val < 4 := (y 0).isLt
    have h1 : (y 1).val < 128 := (y 1).isLt
    refine ⟨⟨128 * (y 0).val + (y 1).val, by omega⟩, Finset.mem_univ _, Finset.mem_singleton.mpr ?_⟩
    refine (eq_ix2 y).trans ?_
    unfold elt
    congr 1 <;> apply Fin.ext
    · show (y 0).val = (128 * (y 0).val + (y 1).val) / 128; omega
    · show (y 1).val = (128 * (y 0).val + (y 1).val) % 128; omega
  rw [← pointsTo_biUnion Finset.univ (ℓ := (V d (cV L) (jV L)).loc cc1_scratch1) (fun t : Fin 512 => ({elt t} : Finset S4x128.Idx)) hd, hc]

/-- Piece `t` of a share cut into 512. -/
abbrev pc (q : PosShare TreeShare) (t : Fin 512) : PosShare TreeShare := pieceOf q 512 (by decide) t

/-- What row `t`'s transfer is handed: the row of the block, a piece of the table's share. -/
def rowPre (d : Dev nD) (L : grid1.Coords) (T : Buf (Elt F) (tLoc d)) (q : PosShare TreeShare)
    (fb : Buf (Elt F) ((V d (cV L) (jV L)).loc cc1_scratch2)) (t : Fin 512) : sProp 𝕄 :=
  iprop(((V d (cV L) (jV L)).loc cc1_scratch2 ↦[bRow t]{fullShare} fb) ∗ (tLoc d ↦{pc q t} T))

/-- What it delivers: the row as the block has it, the list's entry, the piece. -/
def rowPost (d : Dev nD) (L : grid1.Coords) (f0 : Buf (Elt F) (xLoc d)) (T : Buf (Elt F) (tLoc d)) (q : PosShare TreeShare) (t : Fin 512) : sProp 𝕄 :=
  iprop(((V d (cV L) (jV L)).loc cc1_scratch2 ↦[bRow t]{fullShare} blkArr f0 T (base L) (base_le L))
    ∗ ((V d (cV L) (jV L)).loc cc1_scratch1 ↦[{elt t}]{fullShare} listArr f0 (base L) (base_le L)) ∗ (tLoc d ↦{pc q t} T))

/-- That may be kept in an invariant. -/
instance rowPost_storable (d : Dev nD) (L : grid1.Coords) (f0 : Buf (Elt F) (xLoc d)) (T : Buf (Elt F) (tLoc d)) (q : PosShare TreeShare) (t : Fin 512) :
    Storable (upEmb : UEmb _ 𝕄) (rowPost d L f0 T q t) := by unfold rowPost; infer_instance

/-- All rows before: the block and the table's share. -/
theorem rowPre_all (d : Dev nD) (L : grid1.Coords) (T : Buf (Elt F) (tLoc d)) (q : PosShare TreeShare)
    (fb : Buf (Elt F) ((V d (cV L) (jV L)).loc cc1_scratch2)) :
    (bigSep Finset.univ (rowPre d L T q fb) : sProp 𝕄) = iprop(((V d (cV L) (jV L)).loc cc1_scratch2 ↦{fullShare} fb) ∗ (tLoc d ↦{q} T)) := by
  rw [block_rows d L fb, pointsTo_piecesOf Finset.univ T (o := 512) (by decide) q, ← bigSep_sep']
  rfl

/-- All rows after: the block as it should be, the list, the table's share. -/
theorem rowPost_all (d : Dev nD) (L : grid1.Coords) (f0 : Buf (Elt F) (xLoc d)) (T : Buf (Elt F) (tLoc d)) (q : PosShare TreeShare) :
    (bigSep Finset.univ (rowPost d L f0 T q) : sProp 𝕄)
      = iprop(((V d (cV L) (jV L)).loc cc1_scratch2 ↦{fullShare} (blkArr f0 T (base L) (base_le L) : Buf (Elt F) ((V d (cV L) (jV L)).loc cc1_scratch2)))
        ∗ ((V d (cV L) (jV L)).loc cc1_scratch1 ↦{fullShare} (listArr f0 (base L) (base_le L) : Buf (Elt F) ((V d (cV L) (jV L)).loc cc1_scratch1)))
        ∗ (tLoc d ↦{q} T)) := by
  rw [block_rows d L (blkArr f0 T (base L) (base_le L)), list_entries d L (listArr f0 (base L) (base_le L)),
    pointsTo_piecesOf Finset.univ T (o := 512) (by decide) q, ← bigSep_sep', ← bigSep_sep']
  rfl

end Cert.Proof.KI
-- ==== Proof.KI.Gathers.lean ====
/-
  One of a tile's four gathers: 128 row transfers of the tile's one batch.
-/
module

public import proofs.«01_k».proof.Proof.KI.Rows

@[expose] public section

noncomputable section

namespace Cert.Proof.KI

open Cert.KernelIdeal Cert.KernelIdeal.Gen Cert.Proof.Spec
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The units one row's transfer signals. -/
def rowN : ℕ := 4096

/-- They are not none. -/
theorem rowN_pos : 0 < rowN := by decide

/-- A gather's row signals that many, -/
theorem credit_row (o : ℕ) (h : ∀ a, (![o, 0] : Fin 2 → ℕ) a + S128x128.size a ≤ S512x128.size a) (i : Fin 128) :
    ((dstK o h).slice (S128x128.rowRect 0 i) (S128x128.stride_rowRect 0 i)).view.dmaCredit = rowN := by
  show sig.dmaCredit .scVector (Kind.table .scVector .vmem) cc1_scratch2.idx (S128x128.rowShape 0) .f32 = 4096
  decide

/-- and a wait for the gather takes 128 rows' units. -/
theorem credit_wait (o : ℕ) (h : ∀ a, (![o, 0] : Fin 2 → ℕ) a + S128x128.size a ≤ S512x128.size a) :
    (dstK o h).view.dmaCredit = 128 * rowN := by
  show sig.dmaCredit .scVector (Kind.table .scVector .vmem) cc1_scratch2.idx S128x128 .f32 = 128 * 4096
  decide

section

variable [FloatOps F]

/-- What a gather's row is handed is its row's part. -/
theorem row_in (d : Dev nD) (L : grid1.Coords) (T : Buf (Elt F) (tLoc d)) (q : PosShare TreeShare)
    (fb : Buf (Elt F) ((V d (cV L) (jV L)).loc cc1_scratch2)) (o : ℕ)
    (h' : ∀ a, (![o, 0] : Fin 2 → ℕ) a + S128x128.size a ≤ S512x128.size a) (i : Fin 128) (hi : o + i.val < 512) :
    (rowPre d L T q fb ⟨o + i.val, hi⟩ : sProp 𝕄)
      ⊢ iprop(((dstK o h').view.loc (V d (cV L) (jV L)) ↦[((dstK o h').view.slice (S128x128.rowRect 0 i)).set]{fullShare} fb)
        ∗ (srcK.view.loc (V d (cV L) (jV L)) ↦[srcK.view.set]{pc q ⟨o + i.val, hi⟩} T)) := by
  rw [dstK_row o h' i hi, set_srcK]
  exact Entails.of_eq rfl

/-- What it lands is the row's part after. -/
theorem row_out (d : Dev nD) (L : grid1.Coords) (f0 : Buf (Elt F) (xLoc d)) (hf : ∀ i, BitVec.toNat (f0 i : BitVec 32) < 4) (T : Buf (Elt F) (tLoc d)) (q : PosShare TreeShare)
    (fb : Buf (Elt F) ((V d (cV L) (jV L)).loc cc1_scratch2))
    (k o : ℕ) (ho : o = 128 * k) (hk : k < 4) (h : ∀ a, (![k, 0] : Fin 2 → ℕ) a + S1x128.size a ≤ S4x128.size a)
    (h' : ∀ a, (![o, 0] : Fin 2 → ℕ) a + S128x128.size a ≤ S512x128.size a) (hin) (i : Fin 128) (hi : o + i.val < 512) (ii : Fin S128.numel) (hii : ii.val = i.val) :
    iprop((((dstK o h').view.loc (V d (cV L) (jV L)) ↦[((dstK o h').view.slice (S128x128.rowRect 0 i)).set]{fullShare}
        ((dstK o h').view.slice (S128x128.rowRect 0 i)).write (Elt F) fb
          (fun x => srcK.view.read (Elt F) T (gathers_S1024x128_S128x128.rowIdx
            (SparseCore.rows ((offK k h).view.read (Elt F) (listArr f0 (base L) (base_le L))) (show S128.numel = 128 from rfl) hin i) x)) Finset.univ)
        ∗ ((offK k h).view.loc (V d (cV L) (jV L)) ↦[{(offK k h).view.emb (S128.rowMajor.symm ii)}]{fullShare} (listArr f0 (base L) (base_le L) : Buf (Elt F) ((V d (cV L) (jV L)).loc cc1_scratch1))))
        ∗ (srcK.view.loc (V d (cV L) (jV L)) ↦[srcK.view.set]{pc q ⟨o + i.val, hi⟩} T))
      ⊢ (rowPost d L f0 T q ⟨o + i.val, hi⟩ : sProp 𝕄) := by
  obtain ⟨i, hi1⟩ := i
  obtain rfl : ii.val = i := hii
  rw [offK_entry k o ho h hk ii hi, set_srcK, dstK_row o h' ⟨ii.val, hi1⟩ hi]
  refine (sep_assoc.1).trans ?_
  unfold rowPost
  refine Entails.of_eq (congrArg (fun X : sProp 𝕄 => iprop(X ∗ _)) ?_)
  exact pointsTo_congr fun y hy => dstK_lands (F := F) k o ho hk h h' f0 hf T (base L) (base_le L) fb hin _ hi y hy

set_option maxHeartbeats 400000 in
/-- Gather `k` of the tile, rows `o = 128 k` on: it takes its rows' places in the batch, its rows of the block, their
    pieces of the table's share and its row of the list, and issues 128 transfers. -/
theorem gather_ok {Λ' : Labels} {defs : Defs nD τ sig (Elt F) Λ'} (𝒱' : Variants) (d : Dev nD) (L : grid1.Coords) (bd : Option 𝒱'.V) {α : Type} {Q : α → sProp 𝕄}
    (f0 : Buf (Elt F) (xLoc d)) (hf : ∀ i, BitVec.toNat (f0 i : BitVec 32) < 4) (T : Buf (Elt F) (tLoc d)) (q : PosShare TreeShare)
    (fb : Buf (Elt F) ((V d (cV L) (jV L)).loc cc1_scratch2))
    (k o : ℕ) (ho : o = 128 * k) (hk : k < 4) (h : ∀ a, (![k, 0] : Fin 2 → ℕ) a + S1x128.size a ≤ S4x128.size a)
    (h' : ∀ a, (![o, 0] : Fin 2 → ℕ) a + S128x128.size a ≤ S512x128.size a)
    {hp : (V d (cV L) (jV L)).2.kind = .scVector} {hn : S128.numel = S128x128.size gathers_S1024x128_S128x128.axis'} {hsrc : srcK.view.WordExact} {he : EltTy.f32.bits = 32} {hsp : Space.hbm = .hbm ∨ Space.hbm = .shared}
    {hr : S1024x128.StreamRows 0} {kk : PUnit → Prog (TpuEff nD τ sig (Elt F) Λ' (V d (cV L) (jV L)).2) α} :
    iprop(bigSep (Transfers.pending o) (rowPre d L T q fb)
        ∗ (lV.view.loc (V d (cV L) (jV L)) ↦[lV.view.setOn (lR k h).set]{fullShare} (listArr f0 (base L) (base_le L) : Buf (Elt F) ((V d (cV L) (jV L)).loc cc1_scratch1)))
        ∗ Transfers.Batch countersEmb (V d (cV L) (jV L)) (.dma cc1_scratch3.sem) (default : HIx 1) rowN (rowPost d L f0 T q) o 0)
      ⊢ iprop((iprop(bigSep (Transfers.pending (o + 128)) (rowPre d L T q fb)
            ∗ Transfers.Batch countersEmb (V d (cV L) (jV L)) (.dma cc1_scratch3.sem) (default : HIx 1) rowN (rowPost d L f0 T q) (o + 128) 0)
            -∗ wp frame (wpE defs 𝒱' (V d (cV L) (jV L)) bd) Set.univ (kk ⟨⟩) Q)
          -∗ wp frame (wpE defs 𝒱' (V d (cV L) (jV L)) bd) Set.univ
              (SparseCore.enqueueIndirectGather hp srcK (dstK o h') gathers_S1024x128_S128x128 (offK k h) hn cc1_scratch3.sem hsrc he hsp hr >>= kk) Q) := by
  have hlt : ∀ i : Fin 128, o + i.val < 512 := fun i => by have := i.isLt; omega
  have hin := offK_lt (F := F) k h f0 hf (base L) (base_le L)
  rw [show lV.view.setOn (lR k h).set = (offK k h).view.set from (set_offK k h).symm]
  exact GatherBatch.wp_indirectGatherBatch countersEmb 𝒱' (V d (cV L) (jV L)) bd (src := srcK) (dst := dstK o h') (offs := offK k h) (hg := gathers_S1024x128_S128x128)
    (sem := cc1_scratch3.sem) (fs := T) (fd := fb) (fo := listArr f0 (base L) (base_le L)) (qo := fullShare)
    (default : HIx 1) (N := rowN) (n := 512) (j := o) (u := 0) (D := rowPost d L f0 T q) (Pre := rowPre d L T q fb)
    (defs := defs) (Q := Q) (k := kk) (hp := hp) (hn := hn) (hsrc := hsrc) (he := he) (hsp := hsp) (hr := hr)
    (fun i => pc q ⟨o + i.val, hlt i⟩) (credit_row o h') hin (by show o + 128 ≤ 512; omega) (Nat.zero_le _)
    (fun i => row_in d L T q fb o h' i (hlt i)) (fun i => row_out d L f0 hf T q fb k o ho hk h h' hin i (hlt i) (i.cast hn.symm) rfl)

end

end Cert.Proof.KI
-- ==== Proof.KI.Tile.lean ====
/-
  One tile's task, run: it fetches its columns, computes its codes, gathers its rows, writes them out.
-/
module

public import proofs.«01_k».proof.Proof.KI.Gathers

@[expose] public section

noncomputable section

namespace Cert.Proof.KI

open Cert.KernelIdeal Cert.KernelIdeal.Gen Cert.Proof.Spec
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tile's parts as it addresses them -/

/-- Its columns of the features and its rows of the result. -/
abbrev xColK (L : grid1.Coords) : Memref sig .scVector .hbm S5x512 .i32 := xV.slice (xcolK L) (fun _ => rfl)
abbrev oRowK (L : grid1.Coords) : Memref sig .scVector .hbm S512x128 .f32 := oV.slice (orowK L) (fun _ => rfl)

/-- They are the columns dealt to it -/
theorem set_xColK (L : grid1.Coords) : (xColK L).view.set = xColSet (wid L) := by
  show (xV.view.slice (xcolK L)).set = _
  exact xcolK_eq L ▸ rfl
/-- and the rows dealt to it; -/
theorem set_oRowK (L : grid1.Coords) : (oRowK L).view.set = oRowSet (wid L) := by
  show (oV.view.slice (orowK L)).set = _
  exact orowK_eq L ▸ rfl

/-- holding the one is holding the other, -/
theorem pts_xColK (d : Dev nD) (L : grid1.Coords) (f : Buf (Elt F) (xLoc d)) :
    ((xColK L).view.loc (V d (cV L) (jV L)) ↦[(xColK L).view.set]{fullShare} f : sProp 𝕄) = xLoc d ↦[xColSet (wid L)]{fullShare} f := by
  rw [set_xColK]
/-- likewise the rows; -/
theorem pts_oRowK (d : Dev nD) (L : grid1.Coords) (f : Buf (Elt F) (oLoc d)) :
    ((oRowK L).view.loc (V d (cV L) (jV L)) ↦[(oRowK L).view.set]{fullShare} f : sProp 𝕄) = oLoc d ↦[oRowSet (wid L)]{fullShare} f := by
  rw [set_oRowK]
/-- its scratch for the columns is the whole buffer, -/
theorem pts_fV (d : Dev nD) (L : grid1.Coords) (f : Buf (Elt F) ((V d (cV L) (jV L)).loc cc1_scratch0)) :
    (fV.view.loc (V d (cV L) (jV L)) ↦{fullShare} f : sProp 𝕄) = (V d (cV L) (jV L)).loc cc1_scratch0 ↦{fullShare} f := rfl
/-- and so is its block of rows. -/
theorem pts_bV (d : Dev nD) (L : grid1.Coords) (f : Buf (Elt F) ((V d (cV L) (jV L)).loc cc1_scratch2)) :
    (bV.view.loc (V d (cV L) (jV L)) ↦{fullShare} f : sProp 𝕄) = (V d (cV L) (jV L)).loc cc1_scratch2 ↦{fullShare} f := rfl

/-- The block written to the tile's rows of the result is those rows of the result as it should be. -/
theorem out_written (d : Dev nD) (L : grid1.Coords) (f0 : Buf (Elt F) (xLoc d)) (t : Buf (Elt F) (tLoc d)) (g0 : Buf (Elt F) (oLoc d)) :
    ((oRowK L).view.loc (V d (cV L) (jV L)) ↦[(oRowK L).view.set]{fullShare}
        (oRowK L).view.write (Elt F) g0 (blkArr f0 t (base L) (base_le L)) Finset.univ : sProp 𝕄)
      = oLoc d ↦[oRowSet (wid L)]{fullShare} (outArr f0 t : Buf (Elt F) (oLoc d)) := by
  rw [← pts_oRowK d L]
  refine pointsTo_congr fun y hy => ?_
  obtain ⟨x, -, rfl⟩ := Finset.mem_map.mp hy
  rw [View.write_emb_of_mem _ _ (Finset.mem_univ _)]
  show outArr f0 t (ix2 (at512 (base L) (base_le L) (x 0)) (x 1)) = outArr f0 t ((orowK L).emb x)
  congr 1
  refine (Rect.emb_eq_of_coords (orowK L) x _ fun a => ?_).symm
  match a with
  | 0 => show base L + (x 0).val = k1_off2 L 0 + 1 * (x 0).val; rw [k1_off2_eq]; simp [base]
  | 1 => show (x 1).val = k1_off2 L 1 + 1 * (x 1).val; rw [k1_off2_eq]; simp

/-! ## The tile's own semaphores and buffers -/

/-- The cells of the gathers, of the copy in and of the copy out. -/
abbrev cAcell (d : Dev nD) (c : Fin τ.nSC) (i : Fin τ.nSub) : GSem nD τ sig := (V d c i, .dma cc1_scratch3.sem)
abbrev cBcell (d : Dev nD) (c : Fin τ.nSC) (i : Fin τ.nSub) : GSem nD τ sig := (V d c i, .dma cc1_scoped0.sem)
abbrev cCcell (d : Dev nD) (c : Fin τ.nSC) (i : Fin τ.nSub) : GSem nD τ sig := (V d c i, .dma cc1_scoped1.sem)

/-- The three cells of the task are among the tile's own: they are them and the rest. -/
theorem ownSems0_V (d : Dev nD) (L : grid1.Coords) :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scratch3.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

/-- The three scratch buffers are among the tile's own: they are them, at some contents, and the rest. -/
theorem ownBufs_V (d : Dev nD) (L : grid1.Coords) :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  have hne : ∀ b b' : Ref sig .scVector, b ≠ b' → (Proc.scVector (cV L) (jV L)).devRef b ≠ (Proc.scVector (cV L) (jV L)).devRef b' :=
    fun b b' h e => absurd (Proc.devRef_injective _ e) h
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨hne cc1_scratch1 cc1_scratch0 (by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨hne cc1_scratch2 cc1_scratch1 (by decide), Finset.mem_erase.mpr ⟨hne cc1_scratch2 cc1_scratch0 (by decide),
    SparseCore.Cfg.mem_ownRefs_of_owner (p := Proc.scVector (cV L) (jV L)) (b := (Proc.scVector (cV L) (jV L)).devRef cc1_scratch2) rfl⟩⟩)]

variable [FloatOps F]

/-- The copied block over the tile's rows: those rows as they should be, once the copied block is the block. -/
theorem out_landed (d : Dev nD) (L : grid1.Coords) (f0 : Buf (Elt F) (xLoc d)) (t : Buf (Elt F) (tLoc d)) (g0 : Buf (Elt F) (oLoc d)) (w : Vec F S512x128 .f32) :
    ((oRowK L).view.loc (V d (cV L) (jV L)) ↦[(oRowK L).view.set]{fullShare} (oRowK L).view.writes (Elt F) g0 [⟨Rect.whole S512x128, w⟩] : sProp 𝕄)
      ⊢ iprop(⌜∀ x, w x = blkArr f0 t (base L) (base_le L) x⌝ -∗ oLoc d ↦[oRowSet (wid L)]{fullShare} (outArr f0 t : Buf (Elt F) (oLoc d))) := by
  iintro H %hw
  obtain rfl : w = blkArr f0 t (base L) (base_le L) := funext hw
  iapply (Entails.of_eq (out_written (F := F) d L f0 t g0))
  iapply (Entails.of_eq (congrArg (fun f => ((oRowK L).view.loc (V d (cV L) (jV L)) ↦[(oRowK L).view.set]{fullShare} f : sProp 𝕄))
    (View.write_univ_eq_writes_whole (oRowK L).view g0 [] (blkArr f0 t (base L) (base_le L))).symm))
  iexact H

/-- A return followed by a program is the program. -/
theorem wp_ret_bind {Λ' : Labels} {defs : Defs nD τ sig (Elt F) Λ'} {d : Dev nD} {L : grid1.Coords} {α β : Type} (a : α)
    (k : α → Prog (TpuEff nD τ sig (Elt F) Λ' (V d (cV L) (jV L)).2) β) {Q : β → sProp 𝕄} :
    (wp frame (wpE defs 𝒱₀ (V d (cV L) (jV L)) none) Set.univ (k a) Q : sProp 𝕄)
      ⊢ wp frame (wpE defs 𝒱₀ (V d (cV L) (jV L)) none) Set.univ (Prog.bind (Prog.ret a) k) Q := BIBase.Entails.rfl

set_option maxHeartbeats 8000000 in
/-- The task of the tile at `L`: from its columns of the features `f0`, all below 4, a share of the table `t` and its rows
    of the result at anything, it leaves the columns, the share, and its rows of the result at `outArr f0 t`. -/
theorem tile_body (hF : (K (F := F)).Facts) (d : Dev nD) (L : grid1.Coords) (f0 : Buf (Elt F) (xLoc d)) (hf : ∀ i, BitVec.toNat (f0 i : BitVec 32) < 4)
    (t : Buf (Elt F) (tLoc d)) (g0 : Buf (Elt F) (oLoc d)) (q : PosShare TreeShare)
    (O : CellTallies nD τ sig (HIx 1)) (W : Waits sig (HIx 1)) (hO : ∀ g, O g none = 0) :
    iprop((levAts (K (F := F)).L (K (F := F)).lev : sProp 𝕄) ∗ emp
        ∗ ((xLoc d ↦[xColSet (wid L)]{fullShare} f0) ∗ (tLoc d ↦{q} t) ∗ (oLoc d ↦[oRowSet (wid L)]{fullShare} g0))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L xV (Memref.isWhole_whole _) tV (Memref.isWhole_whole _) oV (Memref.isWhole_whole _)
            fV (Memref.isWhole_whole _) lV (Memref.isWhole_whole _) bV (Memref.isWhole_whole _) cc1_scratch3 cc1_scoped0 cc1_scoped1)
          fun _ => iprop(((xLoc d ↦[xColSet (wid L)]{fullShare} f0 : sProp 𝕄) ∗ (tLoc d ↦{q} t) ∗ (oLoc d ↦[oRowSet (wid L)]{fullShare} (outArr f0 t : Buf (Elt F) (oLoc d))))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_body_eq_skeleton]; unfold cc1__sc_body_skel
  simp only [k1_part1_eq_skeleton, k1_part2_eq_skeleton, k1_part3_eq_skeleton, k1_part4_eq_skeleton, k1_part5_eq_skeleton, k1_part6_eq_skeleton, k1_part7_eq_skeleton,
    k1_part8_eq_skeleton, k1_part9_eq_skeleton, k1_part10_eq_skeleton, k1_part11_eq_skeleton, k1_part12_eq_skeleton, k1_part13_eq_skeleton, k1_part14_eq_skeleton,
    k1_part15_eq_skeleton, k1_part16_eq_skeleton, k1_part17_eq_skeleton, k1_part18_eq_skeleton, k1_part19_eq_skeleton, k1_part20_eq_skeleton, k1_part21_eq_skeleton,
    k1_part22_eq_skeleton, k1_part23_eq_skeleton, k1_part24_eq_skeleton, k1_part25_eq_skeleton, k1_part26_eq_skeleton, k1_part27_eq_skeleton]
  rw [(K (F := F)).scopedBufs_V hF d (cV L) (jV L), SparseCore.Cfg.scopedSems0_V (Val := Elt F) d (cV L) (jV L), ownSems0_V, ownBufs_V]
  iintro ⟨#Hlv, -, ⟨Hx, Ht, Ho⟩, ⟨⟨%fs, Hs⟩, ⟨%fl, Hl⟩, ⟨%fb, Hb⟩, Hbufs⟩, ⟨HsemA, HsemB, HsemC, Hsems⟩, HO⟩
  ihave Hmw := (show levAts (K (F := F)).L (K (F := F)).lev ⊢ (Transfers.MayWaits (V d (cV L) (jV L)) (default : HIx 1) O : sProp 𝕄) from
    (K (F := F)).mayWaits_none (thr := V d (cV L) (jV L)) hO) $$ Hlv
  ihave Hx' := (Entails.of_eq (pts_xColK (F := F) d L _).symm) $$ Hx
  ihave Ho' := (Entails.of_eq (pts_oRowK (F := F) d L _).symm) $$ Ho
  ihave Hs' := (Entails.of_eq (pts_fV (F := F) d L _).symm) $$ Hs
  ihave Hl' := (Entails.of_eq (pts_lV (F := F) d L _)) $$ Hl
  icases Hl' with ⟨Hl0, Hl1, Hl2, Hl3⟩
  -- the tile's batch of 512 row transfers
  ihave Hpre := (Entails.of_eq (rowPre_all (F := F) d L t q fb).symm) $$ [Hb Ht]
  · isplitl [Hb] <;> iassumption
  ihave Hpre0 := (Entails.of_eq (congrArg (fun s => bigSep s (rowPre (F := F) d L t q fb)) (Transfers.pending_zero (n := 512)).symm)) $$ Hpre
  imod (Transfers.batch_alloc' countersEmb (V d (cV L) (jV L)) (default : HIx 1) rowN (rowPost (F := F) d L f0 t q)) $$ HsemA with Hbat
  sl_exec
  -- row 0 of the list holds its codes; gather 0
  ihave Hr0 := (row_restate (F := F) d L (listArr f0 (base L) (base_le L)) 0 inb_S4x128_S1x128_0_0 fl _ _ _ _ _ _ _ _ _ _ _ _ _ _ _ _) $$ Hl0
  ihave Hc0 := Hr0 $$ []
  · ipureintro
    exact ⟨fun x => piece_ok d L f0 fs 0 112 112 rfl (by decide) (by decide) _ _ _ _ _ _ x,
      fun x => piece_ok d L f0 fs 0 96 96 rfl (by decide) (by decide) _ _ _ _ _ _ x,
      fun x => piece_ok d L f0 fs 0 80 80 rfl (by decide) (by decide) _ _ _ _ _ _ x,
      fun x => piece_ok d L f0 fs 0 64 64 rfl (by decide) (by decide) _ _ _ _ _ _ x,
      fun x => piece_ok d L f0 fs 0 48 48 rfl (by decide) (by decide) _ _ _ _ _ _ x,
      fun x => piece_ok d L f0 fs 0 32 32 rfl (by decide) (by decide) _ _ _ _ _ _ x,
      fun x => piece_ok d L f0 fs 0 16 16 rfl (by decide) (by decide) _ _ _ _ _ _ x,
      fun x => piece_ok d L f0 fs 0 0 0 rfl (by decide) (by decide) _ _ _ _ _ _ x⟩
  iapply (gather_ok 𝒱₀ d L none f0 hf t q fb 0 0 rfl (by decide) inb_S4x128_S1x128_0_0 inb_S512x128_S128x128_0_0) $$ [Hpre0 Hc0 Hbat]
  · isplitl [Hpre0]; · iassumption
    isplitl [Hc0] <;> iassumption
  iintro ⟨Hpre0, Hbat⟩
  sl_exec
  -- row 1 of the list holds its codes; gather 1
  ihave Hr1 := (row_restate (F := F) d L (listArr f0 (base L) (base_le L)) 1 inb_S4x128_S1x128_1_0 fl _ _ _ _ _ _ _ _ _ _ _ _ _ _ _ _) $$ Hl1
  ihave Hc1 := Hr1 $$ []
  · ipureintro
    exact ⟨fun x => piece_ok d L f0 fs 1 112 240 rfl (by decide) (by decide) _ _ _ _ _ _ x,
      fun x => piece_ok d L f0 fs 1 96 224 rfl (by decide) (by decide) _ _ _ _ _ _ x,
      fun x => piece_ok d L f0 fs 1 80 208 rfl (by decide) (by decide) _ _ _ _ _ _ x,
      fun x => piece_ok d L f0 fs 1 64 192 rfl (by decide) (by decide) _ _ _ _ _ _ x,
      fun x => piece_ok d L f0 fs 1 48 176 rfl (by decide) (by decide) _ _ _ _ _ _ x,
      fun x => piece_ok d L f0 fs 1 32 160 rfl (by decide) (by decide) _ _ _ _ _ _ x,
      fun x => piece_ok d L f0 fs 1 16 144 rfl (by decide) (by decide) _ _ _ _ _ _ x,
      fun x => piece_ok d L f0 fs 1 0 128 rfl (by decide) (by decide) _ _ _ _ _ _ x⟩
  iapply (gather_ok 𝒱₀ d L none f0 hf t q fb 1 128 rfl (by decide) inb_S4x128_S1x128_1_0 inb_S512x128_S128x128_128_0) $$ [Hpre0 Hc1 Hbat]
  · isplitl [Hpre0]; · iassumption
    isplitl [Hc1] <;> iassumption
  iintro ⟨Hpre0, Hbat⟩
  sl_exec
  -- row 2 of the list holds its codes; gather 2
  ihave Hr2 := (row_restate (F := F) d L (listArr f0 (base L) (base_le L)) 2 inb_S4x128_S1x128_2_0 fl _ _ _ _ _ _ _ _ _ _ _ _ _ _ _ _) $$ Hl2
  ihave Hc2 := Hr2 $$ []
  · ipureintro
    exact ⟨fun x => piece_ok d L f0 fs 2 112 368 rfl (by decide) (by decide) _ _ _ _ _ _ x,
      fun x => piece_ok d L f0 fs 2 96 352 rfl (by decide) (by decide) _ _ _ _ _ _ x,
      fun x => piece_ok d L f0 fs 2 80 336 rfl (by decide) (by decide) _ _ _ _ _ _ x,
      fun x => piece_ok d L f0 fs 2 64 320 rfl (by decide) (by decide) _ _ _ _ _ _ x,
      fun x => piece_ok d L f0 fs 2 48 304 rfl (by decide) (by decide) _ _ _ _ _ _ x,
      fun x => piece_ok d L f0 fs 2 32 288 rfl (by decide) (by decide) _ _ _ _ _ _ x,
      fun x => piece_ok d L f0 fs 2 16 272 rfl (by decide) (by decide) _ _ _ _ _ _ x,
      fun x => piece_ok d L f0 fs 2 0 256 rfl (by decide) (by decide) _ _ _ _ _ _ x⟩
  iapply (gather_ok 𝒱₀ d L none f0 hf t q fb 2 256 rfl (by decide) inb_S4x128_S1x128_2_0 inb_S512x128_S128x128_256_0) $$ [Hpre0 Hc2 Hbat]
  · isplitl [Hpre0]; · iassumption
    isplitl [Hc2] <;> iassumption
  iintro ⟨Hpre0, Hbat⟩
  sl_exec
  -- row 3 of the list holds its codes; gather 3
  ihave Hr3 := (row_restate (F := F) d L (listArr f0 (base L) (base_le L)) 3 inb_S4x128_S1x128_3_0 fl _ _ _ _ _ _ _ _ _ _ _ _ _ _ _ _) $$ Hl3
  ihave Hc3 := Hr3 $$ []
  · ipureintro
    exact ⟨fun x => piece_ok d L f0 fs 3 112 496 rfl (by decide) (by decide) _ _ _ _ _ _ x,
      fun x => piece_ok d L f0 fs 3 96 480 rfl (by decide) (by decide) _ _ _ _ _ _ x,
      fun x => piece_ok d L f0 fs 3 80 464 rfl (by decide) (by decide) _ _ _ _ _ _ x,
      fun x => piece_ok d L f0 fs 3 64 448 rfl (by decide) (by decide) _ _ _ _ _ _ x,
      fun x => piece_ok d L f0 fs 3 48 432 rfl (by decide) (by decide) _ _ _ _ _ _ x,
      fun x => piece_ok d L f0 fs 3 32 416 rfl (by decide) (by decide) _ _ _ _ _ _ x,
      fun x => piece_ok d L f0 fs 3 16 400 rfl (by decide) (by decide) _ _ _ _ _ _ x,
      fun x => piece_ok d L f0 fs 3 0 384 rfl (by decide) (by decide) _ _ _ _ _ _ x⟩
  iapply (gather_ok 𝒱₀ d L none f0 hf t q fb 3 384 rfl (by decide) inb_S4x128_S1x128_3_0 inb_S512x128_S128x128_384_0) $$ [Hpre0 Hc3 Hbat]
  · isplitl [Hpre0]; · iassumption
    isplitl [Hc3] <;> iassumption
  iintro ⟨Hpre0, Hbat⟩
  sl_exec
  -- the four waits take all 512 rows' units
  iapply (Transfers.wp_waitBatchMulO countersEmb 𝒱₀ (V d (cV L) (jV L)) none (default : HIx 1) 128 (credit_wait 0 inb_S512x128_S128x128_0_0)
    (show 0 + 128 * rowN ≤ rowN * (384 + 128) by decide)) $$ [Hbat HO]
  · isplitl [Hbat]; · iassumption
    isplitl [HO]; · iassumption
    iapply (Transfers.MayWaits.elim (SemLoc.dma cc1_scratch3.sem)) $$ Hmw
  iintro ⟨Hbat, HO⟩
  sl_exec
  iapply (Transfers.wp_waitBatchMulO countersEmb 𝒱₀ (V d (cV L) (jV L)) none (default : HIx 1) 128 (credit_wait 128 inb_S512x128_S128x128_128_0)
    (show 0 + 128 * rowN + 128 * rowN ≤ rowN * (384 + 128) by decide)) $$ [Hbat HO]
  · isplitl [Hbat]; · iassumption
    isplitl [HO]; · iassumption
    iapply (Transfers.MayWaits.elim (SemLoc.dma cc1_scratch3.sem)) $$ Hmw
  iintro ⟨Hbat, HO⟩
  sl_step
  sl_step
  iapply (Transfers.wp_waitBatchMulO countersEmb 𝒱₀ (V d (cV L) (jV L)) none (default : HIx 1) 128 (credit_wait 256 inb_S512x128_S128x128_256_0)
    (show 0 + 128 * rowN + 128 * rowN + 128 * rowN ≤ rowN * (384 + 128) by decide)) $$ [Hbat HO]
  · isplitl [Hbat]; · iassumption
    isplitl [HO]; · iassumption
    iapply (Transfers.MayWaits.elim (SemLoc.dma cc1_scratch3.sem)) $$ Hmw
  iintro ⟨Hbat, HO⟩
  iapply (Transfers.wp_waitBatchMulO countersEmb 𝒱₀ (V d (cV L) (jV L)) none (default : HIx 1) 128 (credit_wait 384 inb_S512x128_S128x128_384_0)
    (show 0 + 128 * rowN + 128 * rowN + 128 * rowN + 128 * rowN ≤ rowN * (384 + 128) by decide)) $$ [Hbat HO]
  · isplitl [Hbat]; · iassumption
    isplitl [HO]; · iassumption
    iapply (Transfers.MayWaits.elim (SemLoc.dma cc1_scratch3.sem)) $$ Hmw
  iintro ⟨Hbat, HO⟩
  ihave Hbat' := (Entails.of_eq (congrArg₂ (fun j u => (Transfers.Batch countersEmb (V d (cV L) (jV L)) (SemLoc.dma cc1_scratch3.sem) (default : HIx 1) rowN (rowPost (F := F) d L f0 t q) j u : sProp 𝕄))
    (show 384 + 128 = 512 from rfl) (show 0 + 128 * rowN + 128 * rowN + 128 * rowN + 128 * rowN = rowN * 512 by decide))) $$ Hbat
  imod (Transfers.batch_collect' countersEmb (V d (cV L) (jV L)) (sm := SemLoc.dma cc1_scratch3.sem) (ι := (default : HIx 1)) rowN_pos (D := rowPost (F := F) d L f0 t q)) $$ Hbat' with ⟨Hall, HsemA⟩
  ihave Hall' := (Entails.of_eq (rowPost_all (F := F) d L f0 t q)) $$ Hall
  icases Hall' with ⟨Hb, Hl, Ht⟩
  ihave Hb' := (Entails.of_eq (pts_bV (F := F) d L _).symm) $$ Hb
  iapply (wp_ret_bind (F := F))
  sl_exec
  sl_step
  isplitl [Hx' Ht Ho']
  · isplitl [Hx']; · iapply (Entails.of_eq (pts_xColK (F := F) d L _)); iexact Hx'
    isplitl [Ht]; · iexact Ht
    ihave Ho := (out_landed (F := F) d L f0 t g0 _) $$ Ho'
    iapply Ho
    ipureintro; exact fun x => rfl
  isplitl [Hs' Hl Hb' Hbufs]
  · isplitl [Hs']; · iexists _; iexact Hs'
    isplitl [Hl]; · iexists _; iexact Hl
    isplitl [Hb']; · iexists _; iexact Hb'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.KI
-- ==== Proof.KI.Deal.lean ====
/-
  How the launch deals its buffers to the 32 tiles: each tile gets its columns of the transposed features, its rows of
  the result and a share of the table.
-/
module

public import proofs.«01_k».proof.Proof.KI.Common

@[expose] public section

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)
open TcCoe

variable {F : FTy → Type} [FloatOps F]

local notation "𝕄" => MT nD τ sig (HIx 1) (Elt F) ℕ UU ℕ

/-! ## A share cut in pieces -/

/-- The pieces of a share: the left half, then the pieces of the right half. -/
def pieces : (n : ℕ) → PosShare TreeShare → Fin (n + 1) → PosShare TreeShare
  | 0, q => fun _ => q
  | n + 1, q => Fin.cons q.left (pieces n q.right)

/-- Something of each of `n + 1` numbers is that of zero and of each successor. -/
theorem bigSep_zero_succ {n : ℕ} (Φ : Fin (n + 1) → sProp 𝕄) :
    bigSep Finset.univ Φ = iprop(Φ 0 ∗ bigSep Finset.univ fun i : Fin n => Φ i.succ) := by
  rw [Fin.univ_succ, Finset.cons_eq_insert, SparseCore.bigSep_insert' (by simp), bigSep_map]
  rfl

/-- A buffer at a share is the buffer at each of the share's pieces. -/
theorem pointsTo_pieces {ℓ : Loc nD τ sig} (f : Buf (Elt F) ℓ) (n : ℕ) : ∀ q : PosShare TreeShare,
    (ℓ ↦{q} f : sProp 𝕄) = bigSep Finset.univ fun i : Fin (n + 1) => ℓ ↦{pieces n q i} f := by
  induction n with
  | zero => exact fun q => (bigSep_univ_of_subsingleton (0 : Fin 1) (Φ := fun i => (ℓ ↦{pieces 0 q i} f : sProp 𝕄))).symm
  | succ n ih =>
    intro q
    have e := pointsTo_share (ℓ := ℓ) (I := Finset.univ) (f := f) (Ix := HIx 1) (Name := ℕ) (U := UU) (Lvl := ℕ) (PosShare.mem_left_op_right q)
    rw [BI.Entails.antisymm e.1 e.2, ih q.right]
    exact (bigSep_zero_succ fun i : Fin (n + 1 + 1) => (ℓ ↦{pieces (n + 1) q i} f : sProp 𝕄)).symm

/-- Tile `w`'s share of the table. -/
abbrev tq (w : Fin 32) : PosShare TreeShare := pieces 31 fullShare w

/-! ## Columns and rows -/

/-- The places of a tile's columns are those of its rectangle, -/
theorem xColSet_eq (i : Fin 32) : xColSet i = (xcol i).set := by
  show ((View.whole (main_v0_scv : Ref sig .scVector)).slice (xcol i)).set = _
  rw [View.set_slice]; exact Finset.map_refl
/-- and so are the places of its rows. -/
theorem oRowSet_eq (i : Fin 32) : oRowSet i = (orow i).set := by
  show ((View.whole (main_v2_scv : Ref sig .scVector)).slice (orow i)).set = _
  rw [View.set_slice]; exact Finset.map_refl

/-- The transposed features are the tiles' columns. -/
theorem cols_all (d : Dev nD) (f : Buf (Elt F) (xLoc d)) :
    (xLoc d ↦{fullShare} f : sProp 𝕄) = bigSep Finset.univ fun w : Fin 32 => xLoc d ↦[xColSet w]{fullShare} f := by
  have hd : ∀ i ∈ (Finset.univ : Finset (Fin 32)), ∀ j ∈ (Finset.univ : Finset (Fin 32)), i ≠ j → Disjoint (xColSet i) (xColSet j) :=
    fun i _ j _ h => by rw [xColSet_eq, xColSet_eq]; exact Rect.part_disjoint xdiv h
  rw [← pointsTo_biUnion Finset.univ (ℓ := xLoc d) xColSet hd,
    (Finset.biUnion_congr rfl fun i _ => xColSet_eq i).trans (Rect.biUnion_part xdiv)]

/-- The result is the tiles' rows. -/
theorem rows_all (d : Dev nD) (f : Buf (Elt F) (oLoc d)) :
    (oLoc d ↦{fullShare} f : sProp 𝕄) = bigSep Finset.univ fun w : Fin 32 => oLoc d ↦[oRowSet w]{fullShare} f := by
  have hd : ∀ i ∈ (Finset.univ : Finset (Fin 32)), ∀ j ∈ (Finset.univ : Finset (Fin 32)), i ≠ j → Disjoint (oRowSet i) (oRowSet j) :=
    fun i _ j _ h => by rw [oRowSet_eq, oRowSet_eq]; exact Rect.part_disjoint odiv h
  rw [← pointsTo_biUnion Finset.univ (ℓ := oLoc d) oRowSet hd,
    (Finset.biUnion_congr rfl fun i _ => oRowSet_eq i).trans (Rect.biUnion_part odiv)]

/-! ## What one tile is dealt -/

/-- Tile `w`'s columns of `x`, its share of the table `t` and its rows of the result, at `o`. -/
def deal (d : Dev nD) (x : Buf (Elt F) (xLoc d)) (t : Buf (Elt F) (tLoc d)) (o : Buf (Elt F) (oLoc d)) (w : Fin 32) : sProp 𝕄 :=
  iprop((xLoc d ↦[xColSet w]{fullShare} x) ∗ (tLoc d ↦{tq w} t) ∗ (oLoc d ↦[oRowSet w]{fullShare} o))

/-- The three buffers whole are what the 32 tiles are dealt. -/
theorem deal_all (d : Dev nD) (x : Buf (Elt F) (xLoc d)) (t : Buf (Elt F) (tLoc d)) (o : Buf (Elt F) (oLoc d)) :
    (iprop((xLoc d ↦{fullShare} x) ∗ (tLoc d ↦{fullShare} t) ∗ (oLoc d ↦{fullShare} o)) : sProp 𝕄) = bigSep Finset.univ (deal d x t o) := by
  unfold deal
  rw [bigSep_sep', bigSep_sep', cols_all, rows_all]
  exact congrArg (fun X : sProp 𝕄 => iprop(_ ∗ X ∗ _)) (pointsTo_pieces t 31 fullShare)

/-- The tile of subcore `i` of SparseCore `c`. -/
def tileOf (c : Fin 2) (i : Fin 16) : Fin 32 := ⟨2 * i.val + c.val, by omega⟩

/-- A tile is a subcore of a SparseCore. -/
def tiles : Fin 2 × Fin 16 ≃ Fin 32 where
  toFun p := tileOf p.1 p.2
  invFun w := (⟨w.val % 2, by omega⟩, ⟨w.val / 2, by omega⟩)
  left_inv p := Prod.ext (Fin.ext (by show (2 * p.2.val + p.1.val) % 2 = p.1.val; omega)) (Fin.ext (by show (2 * p.2.val + p.1.val) / 2 = p.2.val; omega))
  right_inv w := Fin.ext (by show 2 * (w.val / 2) + w.val % 2 = w.val; omega)

/-- Something of every tile is that of every subcore of every SparseCore. -/
theorem by_core (Φ : Fin 32 → sProp 𝕄) :
    bigSep Finset.univ Φ = bigSep Finset.univ fun c : Fin 2 => bigSep Finset.univ fun i : Fin 16 => Φ (tileOf c i) := by
  rw [bigSep_univ_equiv tiles Φ, bigSep_univ_prod]
  rfl

end Cert.Proof.KI
-- ==== Proof.KI.Region.lean ====
/-
  The TensorCore's kernel: from the first four rows of each of the five tables it computes one table of 1024 rows, a
  row for every combination of five codes below four.
-/
module

public import proofs.«01_k».proof.Proof.KI.Common
public import proofs.«01_k».proof.Proof.Gen.KernelIdeal.Launch
public import proofs.«01_k».proof.Proof.Gen.KernelIdeal.Points
public import Idealize.ShloMosaic.Lib.Pipeline.Regions
public import Idealize.ShloMosaic.Lib.Pipeline.FrameBody

@[expose] public section

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)
open TcCoe

variable {F : FTy → Type} [FloatOps F]

local notation "𝕄" => MT nD τ sig (HIx 1) (Elt F) ℕ UU ℕ

/-! ## The table -/

/-- The first four rows of an array of rows of 128. -/
def top {n : ℕ} (h : 4 ≤ n) (a : (⟨2, ![n, 128]⟩ : Shape).Idx → Elt F .f32) : Vec F S4x128 .f32 :=
  fun i => a (ix2 ⟨(i 0).val, lt_of_lt_of_le (i 0).isLt h⟩ (i 1))

/-- The table the TensorCore's kernel writes, from the five arrays it reads. -/
def table (a1 : S20x128.Idx → Elt F .f32) (a2 : S200x128.Idx → Elt F .f32) (a3 : S4x128.Idx → Elt F .f32)
    (a4 : S10x128.Idx → Elt F .f32) (a5 : S50x128.Idx → Elt F .f32) : S1024x128.Idx → Elt F .f32 :=
  k0_pay1 (top (n := 20) (by decide) a1) (top (n := 200) (by decide) a2) a3 (top (n := 10) (by decide) a4)
    (top (n := 50) (by decide) a5)

variable (m : (ℓ : Loc nD τ sig) → Buf (Elt F) ℓ)

/-- The table computed from the arrays the run starts from. -/
def tab (c : Dev nD) : S1024x128.Idx → Elt F .f32 :=
  table (m (a1Loc c)) (m (a2Loc c)) (m (a3Loc c)) (m (a4Loc c)) (m (a5Loc c))

/-! ## What the pipeline moves -/

/-- The block each of the five inputs' copies bring. -/
def blk1 (c : Dev nD) (t : Fin cfg0.N) : (win0_0.xblock (grid0.coords t)).Idx → Elt F .f32 :=
  (win0_0.blk t).view.read (Elt F) (m (a1Loc c))
def blk2 (c : Dev nD) (t : Fin cfg0.N) : (win0_1.xblock (grid0.coords t)).Idx → Elt F .f32 :=
  (win0_1.blk t).view.read (Elt F) (m (a2Loc c))
def blk3 (c : Dev nD) (t : Fin cfg0.N) : (win0_2.xblock (grid0.coords t)).Idx → Elt F .f32 :=
  (win0_2.blk t).view.read (Elt F) (m (a3Loc c))
def blk4 (c : Dev nD) (t : Fin cfg0.N) : (win0_3.xblock (grid0.coords t)).Idx → Elt F .f32 :=
  (win0_3.blk t).view.read (Elt F) (m (a4Loc c))
def blk5 (c : Dev nD) (t : Fin cfg0.N) : (win0_4.xblock (grid0.coords t)).Idx → Elt F .f32 :=
  (win0_4.blk t).view.read (Elt F) (m (a5Loc c))

/-- Contents for the part of a buffer nothing is said of. -/
abbrev zero8 : S8x128.Idx → Elt F .f32 := fun _ => Scalar.ofBits .f32 0#32
abbrev zero4 : S4x128.Idx → Elt F .f32 := fun _ => Scalar.ofBits .f32 0#32

/-- The pairs a TensorCore that has waited for nothing of the SparseCores may have recorded. -/
abbrev early (c : Dev nD) : Set (SemLoc sig × HIx 1) := {p | (K (F := F)).lev (T c, p.1) p.2 ≤ 8 * SparseCore.Cfg.Blocks.fst (Q := 1) (N := 1) 0}

/-- The pipeline's data: the arrays as the run starts; each input's buffer at its block after the kernel and the
    result's at the table; the core still owing the SparseCores' starts throughout. -/
def dats (_ : Fin 1) (c : Dev nD) : Dat τ (Elt F) (HIx 1) ℕ UU ℕ cfg0 c where
  A w := m ((cfg0.win w).arr.view.loc (c : Thread nD τ))
  after w t := match w with
    | ⟨0, _⟩ => win0_0.fill (grid0.coords t) zero8 (blk1 m c t)
    | ⟨1, _⟩ => win0_1.fill (grid0.coords t) zero8 (blk2 m c t)
    | ⟨2, _⟩ => win0_2.fill (grid0.coords t) zero4 (blk3 m c t)
    | ⟨3, _⟩ => win0_3.fill (grid0.coords t) zero8 (blk4 m c t)
    | ⟨4, _⟩ => win0_4.fill (grid0.coords t) zero8 (blk5 m c t)
    | ⟨5, _⟩ => tab m c
  Φ _ := iprop(emp)
  q _ := fullShare
  owed _ := (K (F := F)).Otc c 0
  recorded _ := early (F := F) c

/-! ## What the kernel's body finds -/

/-- The grid has one point. -/
theorem t_eq (t : Fin cfg0.N) : t = t0_0 := fin_N0 t

/-- An input's buffer holds the block just fetched; -/
theorem before_0 (c : Dev nD) (t : Fin cfg0.N) (d) :
    (dats m 0 c).before (0 : Fin 6) t d = win0_0.fill (grid0.coords t) d (blk1 m c t) := by
  unfold Dat.before; rw [if_pos (fetch0_0 t)]; rfl
/-- likewise the second, -/
theorem before_1 (c : Dev nD) (t : Fin cfg0.N) (d) :
    (dats m 0 c).before (1 : Fin 6) t d = win0_1.fill (grid0.coords t) d (blk2 m c t) := by
  unfold Dat.before; rw [if_pos (fetch0_1 t)]; rfl
/-- the third, -/
theorem before_2 (c : Dev nD) (t : Fin cfg0.N) (d) :
    (dats m 0 c).before (2 : Fin 6) t d = win0_2.fill (grid0.coords t) d (blk3 m c t) := by
  unfold Dat.before; rw [if_pos (fetch0_2 t)]; rfl
/-- the fourth -/
theorem before_3 (c : Dev nD) (t : Fin cfg0.N) (d) :
    (dats m 0 c).before (3 : Fin 6) t d = win0_3.fill (grid0.coords t) d (blk4 m c t) := by
  unfold Dat.before; rw [if_pos (fetch0_3 t)]; rfl
/-- and the fifth; -/
theorem before_4 (c : Dev nD) (t : Fin cfg0.N) (d) :
    (dats m 0 c).before (4 : Fin 6) t d = win0_4.fill (grid0.coords t) d (blk5 m c t) := by
  unfold Dat.before; rw [if_pos (fetch0_4 t)]; rfl
/-- the result's holds anything. -/
theorem before_5 (c : Dev nD) (t : Fin cfg0.N) (d) : (dats m 0 c).before (5 : Fin 6) t d = d := by
  obtain rfl := t_eq t
  unfold Dat.before
  rw [if_neg (show ¬ (cfg0.win (5 : Fin 6)).fetch t0_0 = true by decide)]
  rfl

/-- A property of two axes, from each. -/
theorem two_axes {p : Fin 2 → Prop} (h0 : p 0) (h1 : p 1) : ∀ a, p a
  | ⟨0, _⟩ => h0
  | ⟨1, _⟩ => h1

/-- Where a fetch fills a buffer, it holds what the array holds at the block's place. -/
theorem block_apply (w : Window sig grid0) (t : Fin grid0.N) {c : Dev nD} (A : Buf (Elt F) (w.arr.view.loc (c : Thread nD τ)))
    (d : w.block.Idx → Elt F w.elt) (j : w.block.Idx) (hj : ∀ a, (j a).val < w.xsize (grid0.coords t) a) :
    w.fill (grid0.coords t) d ((w.blk t).view.read (Elt F) A) j
      = w.arr.view.read (Elt F) A ((w.rect t).idx fun a => ⟨(j a).val, hj a⟩) := by
  unfold Window.fill
  rw [dif_pos ((w.moved_iff _ j).mpr hj)]
  rfl

/-- The first four rows of a fetched block are the first four rows of the array it was fetched from. -/
theorem top_1 (c : Dev nD) (d) : top (n := 8) (by decide) (win0_0.fill (grid0.coords t0_0) d (blk1 m c t0_0)) = top (n := 20) (by decide) (m (a1Loc c)) :=
  funext fun i => (block_apply win0_0 t0_0 (m (a1Loc c)) d (ix2 ⟨(i 0).val, lt_of_lt_of_le (i 0).isLt (by decide)⟩ (i 1))
    (two_axes (lt_of_lt_of_eq (lt_of_lt_of_le (i 0).isLt (by decide : 4 ≤ 8)) (by decide +kernel : 8 = win0_0.xsize (grid0.coords t0_0) 0))
      (lt_of_lt_of_eq (i 1).isLt (by decide +kernel : 128 = win0_0.xsize (grid0.coords t0_0) 1)))).trans
    (congrArg (m (a1Loc c)) (funext (two_axes
      (Fin.ext (show win0_0.index t0_0 0 * 8 + 1 * (i 0).val = (i 0).val by rw [show win0_0.index t0_0 0 = 0 from by decide +kernel]; omega))
      (Fin.ext (show win0_0.index t0_0 1 * 128 + 1 * (i 1).val = (i 1).val by rw [show win0_0.index t0_0 1 = 0 from by decide +kernel]; omega)))))

/-- The same of the second table. -/
theorem top_2 (c : Dev nD) (d) : top (n := 8) (by decide) (win0_1.fill (grid0.coords t0_0) d (blk2 m c t0_0)) = top (n := 200) (by decide) (m (a2Loc c)) :=
  funext fun i => (block_apply win0_1 t0_0 (m (a2Loc c)) d (ix2 ⟨(i 0).val, lt_of_lt_of_le (i 0).isLt (by decide)⟩ (i 1))
    (two_axes (lt_of_lt_of_eq (lt_of_lt_of_le (i 0).isLt (by decide : 4 ≤ 8)) (by decide +kernel : 8 = win0_1.xsize (grid0.coords t0_0) 0))
      (lt_of_lt_of_eq (i 1).isLt (by decide +kernel : 128 = win0_1.xsize (grid0.coords t0_0) 1)))).trans
    (congrArg (m (a2Loc c)) (funext (two_axes
      (Fin.ext (show win0_1.index t0_0 0 * 8 + 1 * (i 0).val = (i 0).val by rw [show win0_1.index t0_0 0 = 0 from by decide +kernel]; omega))
      (Fin.ext (show win0_1.index t0_0 1 * 128 + 1 * (i 1).val = (i 1).val by rw [show win0_1.index t0_0 1 = 0 from by decide +kernel]; omega)))))

/-- The same of the fourth table. -/
theorem top_4 (c : Dev nD) (d) : top (n := 8) (by decide) (win0_3.fill (grid0.coords t0_0) d (blk4 m c t0_0)) = top (n := 10) (by decide) (m (a4Loc c)) :=
  funext fun i => (block_apply win0_3 t0_0 (m (a4Loc c)) d (ix2 ⟨(i 0).val, lt_of_lt_of_le (i 0).isLt (by decide)⟩ (i 1))
    (two_axes (lt_of_lt_of_eq (lt_of_lt_of_le (i 0).isLt (by decide : 4 ≤ 8)) (by decide +kernel : 8 = win0_3.xsize (grid0.coords t0_0) 0))
      (lt_of_lt_of_eq (i 1).isLt (by decide +kernel : 128 = win0_3.xsize (grid0.coords t0_0) 1)))).trans
    (congrArg (m (a4Loc c)) (funext (two_axes
      (Fin.ext (show win0_3.index t0_0 0 * 8 + 1 * (i 0).val = (i 0).val by rw [show win0_3.index t0_0 0 = 0 from by decide +kernel]; omega))
      (Fin.ext (show win0_3.index t0_0 1 * 128 + 1 * (i 1).val = (i 1).val by rw [show win0_3.index t0_0 1 = 0 from by decide +kernel]; omega)))))

/-- The same of the fifth table. -/
theorem top_5 (c : Dev nD) (d) : top (n := 8) (by decide) (win0_4.fill (grid0.coords t0_0) d (blk5 m c t0_0)) = top (n := 50) (by decide) (m (a5Loc c)) :=
  funext fun i => (block_apply win0_4 t0_0 (m (a5Loc c)) d (ix2 ⟨(i 0).val, lt_of_lt_of_le (i 0).isLt (by decide)⟩ (i 1))
    (two_axes (lt_of_lt_of_eq (lt_of_lt_of_le (i 0).isLt (by decide : 4 ≤ 8)) (by decide +kernel : 8 = win0_4.xsize (grid0.coords t0_0) 0))
      (lt_of_lt_of_eq (i 1).isLt (by decide +kernel : 128 = win0_4.xsize (grid0.coords t0_0) 1)))).trans
    (congrArg (m (a5Loc c)) (funext (two_axes
      (Fin.ext (show win0_4.index t0_0 0 * 8 + 1 * (i 0).val = (i 0).val by rw [show win0_4.index t0_0 0 = 0 from by decide +kernel]; omega))
      (Fin.ext (show win0_4.index t0_0 1 * 128 + 1 * (i 1).val = (i 1).val by rw [show win0_4.index t0_0 1 = 0 from by decide +kernel]; omega)))))

/-- The third table is fetched whole. -/
theorem whole_3 (c : Dev nD) (d) : win0_2.fill (grid0.coords t0_0) d (blk3 m c t0_0) = m (a3Loc c) :=
  funext fun i => (block_apply win0_2 t0_0 (m (a3Loc c)) d i
    (two_axes (lt_of_lt_of_eq (i 0).isLt (by decide +kernel : 4 = win0_2.xsize (grid0.coords t0_0) 0))
      (lt_of_lt_of_eq (i 1).isLt (by decide +kernel : 128 = win0_2.xsize (grid0.coords t0_0) 1)))).trans
    (congrArg (m (a3Loc c)) (funext (two_axes
      (Fin.ext (show win0_2.index t0_0 0 * 4 + 1 * (i 0).val = (i 0).val by rw [show win0_2.index t0_0 0 = 0 from by decide +kernel]; omega))
      (Fin.ext (show win0_2.index t0_0 1 * 128 + 1 * (i 1).val = (i 1).val by rw [show win0_2.index t0_0 1 = 0 from by decide +kernel]; omega)))))

end Cert.Proof.KI
-- ==== Proof.KI.RegionBody.lean ====
/-
  The TensorCore's kernel run by its pipeline: the region is entered with the five tables and ends with the combined
  table written.
-/
module

public import proofs.«01_k».proof.Proof.KI.Region

@[expose] public section

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)
open TcCoe

variable {F : FTy → Type} [FloatOps F]

local notation "𝕄" => MT nD τ sig (HIx 1) (Elt F) ℕ UU ℕ

/-- The body reads the first four rows of each buffer and writes the table they make, the five buffers unchanged. -/
theorem sound_body (c : Dev nD) (E : Set ℕ) (i : grid0.Coords) (s0 s1 s2 s3 s4 s5 : Fin 1)
    (X0 X1 X3 X4 : S8x128.Idx → Elt F .f32) (X2 : S4x128.Idx → Elt F .f32) (X5 : S1024x128.Idx → Elt F .f32) (Q : PUnit → sProp 𝕄) :
    iprop((owns (c : Thread nD τ) (stage0_0 s0) fullShare X0
            ∗ owns (c : Thread nD τ) (stage0_1 s1) fullShare X1
            ∗ owns (c : Thread nD τ) (stage0_2 s2) fullShare X2
            ∗ owns (c : Thread nD τ) (stage0_3 s3) fullShare X3
            ∗ owns (c : Thread nD τ) (stage0_4 s4) fullShare X4
            ∗ owns (c : Thread nD τ) (stage0_5 s5) fullShare X5)
          ∗ (iprop(owns (c : Thread nD τ) (stage0_0 s0) fullShare X0
            ∗ owns (c : Thread nD τ) (stage0_1 s1) fullShare X1
            ∗ owns (c : Thread nD τ) (stage0_2 s2) fullShare X2
            ∗ owns (c : Thread nD τ) (stage0_3 s3) fullShare X3
            ∗ owns (c : Thread nD τ) (stage0_4 s4) fullShare X4
            ∗ owns (c : Thread nD τ) (stage0_5 s5) fullShare (k0_pay1 (top (n := 8) (by decide) X0) (top (n := 8) (by decide) X1) X2 (top (n := 8) (by decide) X3) (top (n := 8) (by decide) X4))) -∗ Q ⟨⟩))
      ⊢ wp frame (wpE (defs₀ (F := F)) 𝒱₀ c none) E
          (cc0__build_table_body i (stage0_0 s0) (hstage0_0 s0) (stage0_1 s1) (hstage0_1 s1) (stage0_2 s2) (hstage0_2 s2) (stage0_3 s3) (hstage0_3 s3) (stage0_4 s4) (hstage0_4 s4) (stage0_5 s5) (hstage0_5 s5)) Q := by
  have hz : (![0, 0] : Fin 2 → Nat) = fun _ => 0 := funext fun a => by fin_cases a <;> rfl
  have hr1 : (Memref.whole cc0_stg0_0 : Memref sig .tc _ _ _).view.readAt (Elt F) (Rect.unit (s := S8x128) ![0, 0] S4x128.size
      inb_S8x128_S4x128_0_0).toLoadRect = top (n := 8) (by decide) := funext fun f => funext fun i => congrArg f
    (funext (two_axes (Fin.ext (show 0 + 1 * (i 0).val = (i 0).val by omega)) (Fin.ext (show 0 + 1 * (i 1).val = (i 1).val by omega))))
  have hr2 : (Memref.whole cc0_stg1_0 : Memref sig .tc _ _ _).view.readAt (Elt F) (Rect.unit (s := S8x128) ![0, 0] S4x128.size
      inb_S8x128_S4x128_0_0).toLoadRect = top (n := 8) (by decide) := funext fun f => funext fun i => congrArg f
    (funext (two_axes (Fin.ext (show 0 + 1 * (i 0).val = (i 0).val by omega)) (Fin.ext (show 0 + 1 * (i 1).val = (i 1).val by omega))))
  have hr3 : (Memref.whole cc0_stg2_0 : Memref sig .tc _ _ _).view.readAt (Elt F) (Rect.unit (s := S4x128) ![0, 0] S4x128.size
      inb_S4x128_S4x128_0_0).toLoadRect = id := funext (Memref.readAt_unit_zero (Elt F) cc0_stg2_0 hz _)
  have hr4 : (Memref.whole cc0_stg3_0 : Memref sig .tc _ _ _).view.readAt (Elt F) (Rect.unit (s := S8x128) ![0, 0] S4x128.size
      inb_S8x128_S4x128_0_0).toLoadRect = top (n := 8) (by decide) := funext fun f => funext fun i => congrArg f
    (funext (two_axes (Fin.ext (show 0 + 1 * (i 0).val = (i 0).val by omega)) (Fin.ext (show 0 + 1 * (i 1).val = (i 1).val by omega))))
  have hr5 : (Memref.whole cc0_stg4_0 : Memref sig .tc _ _ _).view.readAt (Elt F) (Rect.unit (s := S8x128) ![0, 0] S4x128.size
      inb_S8x128_S4x128_0_0).toLoadRect = top (n := 8) (by decide) := funext fun f => funext fun i => congrArg f
    (funext (two_axes (Fin.ext (show 0 + 1 * (i 0).val = (i 0).val by omega)) (Fin.ext (show 0 + 1 * (i 1).val = (i 1).val by omega))))
  have hw : ∀ f w, (((Memref.whole cc0_stg5_0).access (Rect.unit (s := S1024x128) ![0, 0] S1024x128.size inb_S1024x128_S1024x128_0_0)) :
      View sig .tc _ _ _).write (Elt F) f w Finset.univ = w := Memref.write_access_unit_zero_univ (Elt F) cc0_stg5_0 hz _
  fin_cases s0; fin_cases s1; fin_cases s2; fin_cases s3; fin_cases s4; fin_cases s5
  simp only [owns_whole_eq, cc0__build_table_body_eq_skeleton]; unfold cc0__build_table_body_skel
  simp only [Prog.lift, Prog.bind_op, Prog.bind_ret]
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, Hk⟩
  sl_steps
  iapply Hk
  rw [hr1, hr2, hr3, hr4, hr5, hw]
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  iexists _
  isplitr
  swap
  · iexact H5
  ipureintro
  rw [hf0, hf1, hf2, hf3, hf4]
  rfl

end Cert.Proof.KI
-- ==== Proof.KI.RegionRun.lean ====
/-
  The TensorCore's kernel as a region of the program: entered with the five tables in memory and left with the table of
  1024 rows in its array, the core's starts of the SparseCores still owed.
-/
module

public import proofs.«01_k».proof.Proof.KI.RegionBody
public import Idealize.ShloMosaic.Lib.Pipeline.ValueKit

@[expose] public section

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)
open TcCoe

variable {F : FTy → Type} [FloatOps F]

local notation "𝕄" => MT nD τ sig (HIx 1) (Elt F) ℕ UU ℕ

variable (m : (ℓ : Loc nD τ sig) → Buf (Elt F) ℓ)

/-- What the body writes from the fetched buffers is the table of the five arrays, whatever the buffers held past them. -/
theorem tab_fetched (c : Dev nD) (t : Fin cfg0.N) (d0 d1 d3 d4 : S8x128.Idx → Elt F .f32) (d2 : S4x128.Idx → Elt F .f32) :
    k0_pay1 (top (n := 8) (by decide) (win0_0.fill (grid0.coords t) d0 (blk1 m c t))) (top (n := 8) (by decide) (win0_1.fill (grid0.coords t) d1 (blk2 m c t)))
      (win0_2.fill (grid0.coords t) d2 (blk3 m c t)) (top (n := 8) (by decide) (win0_3.fill (grid0.coords t) d3 (blk4 m c t)))
      (top (n := 8) (by decide) (win0_4.fill (grid0.coords t) d4 (blk5 m c t))) = tab m c := by
  rw [t_eq t, top_1, top_2, whole_3, top_4, top_5]
  rfl

/-- A block that lies within its array fills the whole buffer, whatever the buffer held. -/
theorem fill_whole (w : Window sig grid0) (hw : ∀ t a, w.xsize (grid0.coords t) a = w.size a) (t : Fin grid0.N)
    (d d' : w.block.Idx → Elt F w.elt) (v : (w.xblock (grid0.coords t)).Idx → Elt F w.elt) :
    w.fill (grid0.coords t) d v = w.fill (grid0.coords t) d' v := by
  funext j
  unfold Window.fill
  rw [dif_pos, dif_pos]
  all_goals exact (w.moved_iff _ j).mpr fun a => lt_of_lt_of_eq (j a).isLt (hw t a).symm

/-- The second input's block lies in its array whole, -/
theorem whole0_1 : ∀ t a, win0_1.xsize (grid0.coords t) a = win0_1.size a := by decide +kernel
/-- and so does the third's. -/
theorem whole0_2 : ∀ t a, win0_2.xsize (grid0.coords t) a = win0_2.size a := by decide +kernel

/-- The body's obligation to the pipeline. -/
theorem body_obligation (c : Dev nD) : BodyObligationLoose (dats m 0 c) (defs₀ (F := F)) 𝒱₀ none Set.univ := fun t => by
  rw [bigSep_W0, bigSep_W0]
  simp only
  rw [show (dats m 0 c).Φ t.succ = (dats m 0 c).Φ t.castSucc from rfl,
    show (dats m 0 c).owesAt none t.succ = (dats m 0 c).owesAt none t.castSucc from rfl]
  iintro ⟨HΦ, Ho, ⟨%d0, H0⟩, ⟨%d1, H1⟩, ⟨%d2, H2⟩, ⟨%d3, H3⟩, ⟨%d4, H4⟩, ⟨%d5, H5⟩⟩
  rw [before_0 m c t d0, before_1 m c t d1, before_2 m c t d2, before_3 m c t d3, before_4 m c t d4, before_5 m c t d5]
  iapply (sound_body (F := F) c Set.univ (grid0.coords t) (cfg0.slots t 0) (cfg0.slots t 1) (cfg0.slots t 2)
    (cfg0.slots t 3) (cfg0.slots t 4) (cfg0.slots t 5)
    (win0_0.fill (grid0.coords t) d0 (blk1 m c t)) (win0_1.fill (grid0.coords t) d1 (blk2 m c t))
    (win0_3.fill (grid0.coords t) d3 (blk4 m c t)) (win0_4.fill (grid0.coords t) d4 (blk5 m c t)) (win0_2.fill (grid0.coords t) d2 (blk3 m c t)) d5 _)
  isplitl [H0 H1 H2 H3 H4 H5]
  · isplitl [H0]
    · iexact H0
    isplitl [H1]
    · iexact H1
    isplitl [H2]
    · iexact H2
    isplitl [H3]
    · iexact H3
    isplitl [H4]
    · iexact H4
    · iexact H5
  rw [tab_fetched m c t d0 d1 d3 d4 d2]
  iintro ⟨H0, H1, H2, H3, H4, H5⟩
  isplitl [HΦ]; · iexact HΦ
  isplitl [Ho]; · iexact Ho
  isplitl [H0]
  · iexists d0
    change _ ⊢ owns (c : Thread nD τ) (stage0_0 (cfg0.slots t 0)) fullShare (win0_0.fill (grid0.coords t) d0 (win0_0.cut (grid0.coords t) (win0_0.fill (grid0.coords t) zero8 (blk1 m c t))))
    rw [win0_0.cut_fill]
  isplitl [H1]
  · rw [fill_whole win0_1 whole0_1 t d1 zero8 (blk2 m c t)]; iexact H1
  isplitl [H2]
  · rw [fill_whole win0_2 whole0_2 t d2 zero4 (blk3 m c t)]; iexact H2
  isplitl [H3]
  · iexists d3
    change _ ⊢ owns (c : Thread nD τ) (stage0_3 (cfg0.slots t 3)) fullShare (win0_3.fill (grid0.coords t) d3 (win0_3.cut (grid0.coords t) (win0_3.fill (grid0.coords t) zero8 (blk4 m c t))))
    rw [win0_3.cut_fill]
  isplitl [H4]
  · iexists d4
    change _ ⊢ owns (c : Thread nD τ) (stage0_4 (cfg0.slots t 4)) fullShare (win0_4.fill (grid0.coords t) d4 (win0_4.cut (grid0.coords t) (win0_4.fill (grid0.coords t) zero8 (blk5 m c t))))
    rw [win0_4.cut_fill]
  · iexact H5

/-! ## The arrays when the region ends -/

/-- An input's array is what it was. -/
theorem arrAt_in (c : Dev nD) (w : Fin cfg0.W) (hw : (cfg0.win w).isOut = false) : (dats m 0 c).arrAt w cfg0.N = m ((cfg0.win w).arr.view.loc (c : Thread nD τ)) :=
  (dats m 0 c).arrAt_in w hw _

/-- The result's one block is its first. -/
theorem index0_5 : ∀ t : Fin cfg0.N, win0_5.index t = ![0, 0] := by decide +kernel

/-- The result's array holds the table. -/
theorem arrAt_out (c : Dev nD) : (dats m 0 c).arrAt 5 cfg0.N = tab m c := by
  refine (dats m 0 c).arrAt_eq_of_covers 5 _ (by decide +kernel) (fun t hf y => ?_)
  blk_simp
  show tab m c y = _
  refine congrArg (tab m c) ?_
  blk_ext [index0_5]

end Cert.Proof.KI
-- ==== Proof.KI.RegionSeg.lean ====
/-
  The region as the launch runs it, between the transpose and the SparseCores' call.
-/
module

public import proofs.«01_k».proof.Proof.KI.RegionRun
public import Idealize.ShloMosaic.Lib.Pipeline.RegionArrays

@[expose] public section

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)
open TcCoe

variable {F : FTy → Type} [FloatOps F]

local notation "𝕄" => MT nD τ sig (HIx 1) (Elt F) ℕ UU ℕ

variable (m : (ℓ : Loc nD τ sig) → Buf (Elt F) ℓ)

/-- No pipeline here reads a table of its own. -/
abbrev adm : (p : Fin 1) → (pcfgs (F := F) p).Adm := fun p => (cfgs p).toPCfg_adm
/-- The one pipeline, and its data. -/
abbrev pins : Fin 1 → Cfg sig Λ₀ := Pipeline.pin (pcfgs (F := F)) adm
abbrev pdats (p : Fin 1) (c : Dev nD) : Dat τ (Elt F) (HIx 1) ℕ UU ℕ (pins (F := F) p) c := dats m p c
/-- Its semaphores are pairwise distinct. -/
theorem pinj : Function.Injective (Pipeline.cellOf (nD := nD) (τ := τ) (pins (F := F))) := launch0.cellOf_inj

/-- The core owes nothing at the index of its own transfers. -/
theorem Otc_none (d : Dev nD) (n : ℕ) (g : GSem nD τ sig) : (K (F := F)).Otc d n g none = 0 := by
  by_contra h
  have h' := SparseCore.Cfg.lev_of_Otc_pos (K := K (F := F)) (Nat.pos_of_ne_zero h)
  rw [SparseCore.Cfg.lev_none] at h'
  omega

/-- What the core holds of the arrays and owes, as the region starts and as it ends. -/
def regionSt (c : Dev nD) (t : S1024x128.Idx → Elt F .f32) : sProp 𝕄 :=
  iprop(((a1Loc c ↦{fullShare} m (a1Loc c)) ∗ (a2Loc c ↦{fullShare} m (a2Loc c)) ∗ (a3Loc c ↦{fullShare} m (a3Loc c))
      ∗ (a4Loc c ↦{fullShare} m (a4Loc c)) ∗ (a5Loc c ↦{fullShare} m (a5Loc c)) ∗ (tLoc c ↦{fullShare} t))
    ∗ ∃ W, ⌜(K (F := F)).WBelow (T c) W (8 * SparseCore.Cfg.Blocks.fst (Q := 1) (N := 1) 0)⌝ ∗ owes (T c) ((K (F := F)).Otc c 0) W)

/-- The windows' arrays, one by one. -/
theorem arrays_six (c : Dev nD) (G : (w : Fin cfg0.W) → Buf (Elt F) ((cfg0.win w).arr.view.loc (c : Thread nD τ))) :
    ((dats m 0 c).arrays G : sProp 𝕄)
      = iprop((a1Loc c ↦{fullShare} G 0) ∗ (a2Loc c ↦{fullShare} G 1) ∗ (a3Loc c ↦{fullShare} G 2)
      ∗ (a4Loc c ↦{fullShare} G 3) ∗ (a5Loc c ↦{fullShare} G 4) ∗ (tLoc c ↦{fullShare} G 5)) := by
  rw [Pipeline.arrays_eq cfgs (fun p c => dats m p c) 0 c launch0.arr_whole ((dats m 0 c).share_full fun _ => rfl) G]
  rw [bigSep_W0]

/-- The region: what it needs of the pipeline, and what it takes and gives. -/
def region : Pipeline.RegionSeg (pcfgs (F := F)) adm (pdats m) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody := body_obligation m
  hwaits c := Pipeline.cellsWaits_intro (pins (F := F)) (pdats m) none 0 c fun w s t => (K (F := F)).mayWait_none _ (Otc_none c 0)
  pre c := regionSt m c (m (tLoc c))
  post c := regionSt m c (tab m c)
  X _ := iprop(emp)
  Y _ := iprop(emp)
  Z _ := iprop(emp)
  hentry c := by
    rw [Pipeline.ownSems0_none, Pipeline.prefHeld_of_none _ rfl]
    unfold regionSt
    rw [show ((pdats m 0 c).arrays ((pdats m 0 c).arrAt · 0) : sProp 𝕄) = _ from arrays_six m c ((dats m 0 c).arrAt · 0)]
    iintro ⟨⟨Ha, %W, %hW, HO⟩, -, -⟩
    imodintro
    isplitl [Ha]; · iexact Ha
    isplitr; · iempintro
    isplitl [HO]
    · unfold Dat.owesAt Pipeline.owesWithin Dat.bound
      iexists W; isplitr; · ipureintro; exact fun p hp => Or.inl (hW p hp)
      iexact HO
    isplitr <;> iempintro
  hin c := by
    rw [show (Pipeline.scopedRest (pcfgs (F := F) 0).spec c : sProp 𝕄) = _ from scopedRest0_eq c]
    iintro ⟨-, -, -⟩; iempintro
  hout c := by
    rw [Pipeline.ownSems0_none, show (Pipeline.scopedRest (pcfgs (F := F) 0).spec c : sProp 𝕄) = _ from scopedRest0_eq c]
    iintro -
    isplitr; · iempintro
    isplitr <;> iempintro
  hexit c := by
    unfold regionSt
    rw [show ((pdats m 0 c).arrays ((pdats m 0 c).arrAt · (pins (F := F) 0).N) : sProp 𝕄) = _ from arrays_six m c ((dats m 0 c).arrAt · cfg0.N)]
    rw [arrAt_in m c 0 rfl, arrAt_in m c 1 rfl, arrAt_in m c 2 rfl, arrAt_in m c 3 rfl, arrAt_in m c 4 rfl, arrAt_out m c]
    iintro ⟨Ha, HO, -, -⟩
    imodintro
    isplitl [Ha]; · iexact Ha
    unfold Dat.owesAt Pipeline.owesWithin Dat.bound
    icases HO with ⟨%W, %hW, HO⟩
    iexists W
    isplitr
    · ipureintro
      intro p hp
      rcases hW hp with h | ⟨w, s, rfl⟩
      · exact h
      · rw [SparseCore.Cfg.lev_none]; exact Nat.zero_le _
    iexact HO

/-- THE REGION RUNS: from the core's state and the pipeline's ghosts, to the state with the table written. -/
theorem region_wp (c : Dev nD) (k : PUnit → Prog (TpuEff nD τ sig (Elt F) (ΛP (F := F)) .tc) PUnit) (Q : PUnit → sProp 𝕄) :
    iprop((iprop(boundary (c : Thread nD τ) ∗ regionSt m c (tab m c)) -∗ wp frame (wpE (D (F := F)) 𝒱 (c : Thread nD τ) none) Set.univ (k ⟨⟩) Q)
        ∗ boundary (c : Thread nD τ) ∗ regionSt m c (m (tLoc c)) ∗ levAts (K (F := F)).L (K (F := F)).lev
        ∗ Pipeline.cellsGhost (pins (F := F)) EP 0 c ∗ Pipeline.toksInit (pins (F := F)) EP 0 c)
      ⊢ wp frame (wpE (D (F := F)) 𝒱 (c : Thread nD τ) none) Set.univ (.op (.customCall (Pipeline.entry 0) ()) k) Q :=
  Pipeline.RegionSeg.wp (pcfgs (F := F)) adm (pdats m) (none : HIx 1) pinj EP defs₀ 𝒱₀ (K (F := F)).L (K (F := F)).lev (region m) c none
    (fun _ h => nomatch h) k Q

end Cert.Proof.KI
-- ==== Proof.KI.Pay.lean ====
/-
  What the SparseCores' call hands over and takes back, and each tile's obligation.
-/
module

public import proofs.«01_k».proof.Proof.KI.Tile
public import proofs.«01_k».proof.Proof.KI.Deal
public import proofs.«01_k».proof.Proof.KI.RegionSeg

@[expose] public section

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)
open TcCoe

variable {F : FTy → Type} [FloatOps F]

local notation "𝕄" => MT nD τ sig (HIx 1) (Elt F) ℕ UU ℕ

open Cert.Proof.Spec (outArr)

variable (m : (ℓ : Loc nD τ sig) → Buf (Elt F) ℓ)

/-- The transposed features. -/
abbrev xT (d : Dev nD) : S5x16384.Idx → BitVec 32 :=
  transpose S5x16384 [1, 0] (m (a0Loc d) : S16384x5.Idx → BitVec 32) transposes_S16384x5_S5x16384_1_0

/-- The result: every row the table's row of the features' code. -/
abbrev out (d : Dev nD) : S16384x128.Idx → Elt F .f32 := outArr (xT m d) (tab m d)

/-- What a tile is given, and what it gives back. -/
abbrev given (d : Dev nD) (w : Fin 32) : sProp 𝕄 := deal d (xT m d : Buf (Elt F) (xLoc d)) (tab m d : Buf (Elt F) (tLoc d)) (m (oLoc d)) w
abbrev back (d : Dev nD) (w : Fin 32) : sProp 𝕄 := deal d (xT m d : Buf (Elt F) (xLoc d)) (tab m d : Buf (Elt F) (tLoc d)) (out m d : Buf (Elt F) (oLoc d)) w

/-- The tile a call's SparseCore and subcore name. -/
abbrev tileAt (c : Fin ((K (F := F)).nCore 0)) (i : Fin ((K (F := F)).nSub 0)) : Fin 32 :=
  tileOf (Fin.cast nCore_zero c) (Fin.cast nSub_zero i)

/-- The handshakes' payloads: a SparseCore's start and end carry its sixteen tiles' deals. -/
def P : (K (F := F)).Pay (nD := nD) (Val := Elt F) (Name := ℕ) (U := UU) where
  st := fun q d c => match q with | 0 => bigSep Finset.univ fun i : Fin ((K (F := F)).nSub 0) => given m d (tileAt c i)
  dn := fun q d c => match q with | 0 => bigSep Finset.univ fun i : Fin ((K (F := F)).nSub 0) => back m d (tileAt c i)
  go := fun q d c i => match q with | 0 => given m d (tileAt c i)
  td := fun q d c i => match q with | 0 => back m d (tileAt c i)
  x := fun _ _ => iprop(emp)

/-- A tile's deal may be kept in an invariant, -/
instance deal_storable (d : Dev nD) (x : Buf (Elt F) (xLoc d)) (t : Buf (Elt F) (tLoc d)) (o : Buf (Elt F) (oLoc d)) (w : Fin 32) :
    BI.Storable (upEmb : UEmb _ 𝕄) (deal d x t o w) :=
  (inferInstance : BI.Storable (upEmb : UEmb _ 𝕄)
    iprop((xLoc d ↦[xColSet w]{fullShare} x) ∗ (tLoc d ↦{tq w} t) ∗ (oLoc d ↦[oRowSet w]{fullShare} o)))

/-- and so may every payload. -/
instance P_storable : (P (F := F) m).IsStorable where
  st q d c := match q with
    | 0 => (inferInstance : BI.Storable (upEmb : UEmb _ 𝕄) (bigSep Finset.univ fun i : Fin ((K (F := F)).nSub 0) => given m d (tileAt c i)))
  dn q d c := match q with
    | 0 => (inferInstance : BI.Storable (upEmb : UEmb _ 𝕄) (bigSep Finset.univ fun i : Fin ((K (F := F)).nSub 0) => back m d (tileAt c i)))
  go q d c i := match q with | 0 => (inferInstance : BI.Storable (upEmb : UEmb _ 𝕄) (given m d (tileAt c i)))
  td q d c i := match q with | 0 => (inferInstance : BI.Storable (upEmb : UEmb _ 𝕄) (back m d (tileAt c i)))

/-- A SparseCore's start is its tiles' deals, and their returns are its end. -/
theorem vecSplit : (K (F := F)).VecSplit' (P m) 0 := by
  intro d c
  show (bigSep Finset.univ fun i : Fin ((K (F := F)).nSub 0) => given m d (tileAt c i)) ⊢ |={Set.univ}=> iprop(
      (bigSep Finset.univ fun i : Fin ((K (F := F)).nSub 0) => given m d (tileAt c i))
      ∗ ((bigSep Finset.univ fun i : Fin ((K (F := F)).nSub 0) => back m d (tileAt c i))
        -∗ bigSep Finset.univ fun i : Fin ((K (F := F)).nSub 0) => back m d (tileAt c i)))
  iintro H; imodintro
  isplitl [H]; · iexact H
  iintro H; iexact H

/-! ## A tile's obligation -/

/-- The grid point of a SparseCore and a subcore. -/
def pt (c : Fin (grid1.bound 0)) (s : Fin (grid1.bound 1)) : grid1.Coords :=
  fun | 0 => c | 1 => s | ⟨_ + 2, h⟩ => absurd h (Nat.not_lt.2 (Nat.le_add_left _ _))

/-- What a tile runs is the kernel's body at its grid point and on its own buffers. -/
theorem defs₀_tile (c : Fin τ.nSC) (s : Fin τ.nSub) :
    defs₀ (F := F) (.scVector c s) 1 ()
      = SparseCore.onTile hcore1 hsub1 (fun c s => cc1__sc_body (pt c s) xV (Memref.isWhole_whole _) tV (Memref.isWhole_whole _) oV (Memref.isWhole_whole _)
          fV (Memref.isWhole_whole _) lV (Memref.isWhole_whole _) bV (Memref.isWhole_whole _) cc1_scratch3 cc1_scoped0 cc1_scoped1) ⟨⟩ c s := rfl

/-- What a tile leaves, told to the launch: it has waited at no index but the launch's. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every feature word is below 4. -/
def Small : Prop := ∀ (d : Dev nD) (i : S16384x5.Idx), BitVec.toNat (m (a0Loc d) i : BitVec 32) < 4

/-- Transposed, they still are. -/
theorem small_xT (h : Small m) (d : Dev nD) (i : S5x16384.Idx) : (xT m d i).toNat < 4 := h d _

set_option maxRecDepth 16384 in
/-- Every tile does its task. -/
theorem tileObl (hF : (K (F := F)).Facts) (h : Small m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (tile_body hF d (pt ⟨_, hci.1⟩ ⟨_, hci.2⟩) (xT m d : Buf (Elt F) (xLoc d)) (small_xT m h d) (tab m d : Buf (Elt F) (tLoc d)) (m (oLoc d))
    (tq (tileAt c i)) O W hO).trans (wp_mono frame _ _ fun _ => waits_weaken)

end Cert.Proof.KI
-- ==== Proof.KI.Main.lean ====
/-
  The whole program's run: the transpose, the TensorCore's region and the SparseCores' call, and the memory they leave.
-/
module

public import proofs.«01_k».proof.Proof.KI.Pay
public import Idealize.ShloMosaic.Lib.StableHlo.Run
public import Idealize.ShloMosaic.Lib.SparseCore.Quiescent

@[expose] public section

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation BodyObligationLoose)
open TcCoe

variable {F : FTy → Type} [FloatOps F]

local notation "𝕄" => MT nD τ sig (HIx 1) (Elt F) ℕ UU ℕ

variable (m : (ℓ : Loc nD τ sig) → Buf (Elt F) ℓ) (ρ : Dev nD → PrngReg)

/-! ## The ghost state the launch starts from -/

/-- The handshakes' rounds, and the rounds of the pipeline's transfers. -/
def u₀ : UU := (initOf (K (F := F)).hsCells (K (F := F)).hsToks,
  (initOf (Pipeline.cells (pins (F := F)) pinj) (Pipeline.launchToks (pins (F := F)) pinj), 1))

/-- What the TensorCore of a device is given of it. -/
abbrev G (d : Dev nD) : sProp 𝕄 := iprop(Pipeline.cellsGhost (pins (F := F)) EP 0 d ∗ Pipeline.toksInit (pins (F := F)) EP 0 d)

/-- What is dealt per device and region is dealt per device, the region being one. -/
theorem one_region (Φ : Dev nD → Fin 1 → sProp 𝕄) : (bigSep Finset.univ fun d => bigSep Finset.univ fun p => Φ d p) ⊢ bigSep Finset.univ fun d => Φ d 0 :=
  Entails.of_eq (bigSep_congr fun d _ => bigSep_univ_of_subsingleton (0 : Fin 1))

/-- It is dealt out: the handshakes' part to the launch, the pipeline's to the TensorCores. -/
theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (pins (F := F)) pinj) (Pipeline.launchToks (pins (F := F)) pinj), 1) : UP × Counters)) $$ Hu
  icases H with ⟨HH, HR⟩
  ihave H := (own_pair_emb (embR : Emb (UP × Counters) 𝕄) (initOf (Pipeline.cells (pins (F := F)) pinj) (Pipeline.launchToks (pins (F := F)) pinj)) (1 : Counters)) $$ HR
  icases H with ⟨HP, -⟩
  imod (Pipeline.fund_ghost (pins (F := F)) (EP (F := F)) pinj) $$ HP with ⟨Hg, Ht⟩
  imodintro
  isplitl [HH]; · iexact HH
  isplitl [Hg Ht]
  · rw [bigSep_sep']
    isplitl [Hg]
    · iapply (one_region fun d p => Pipeline.cellsGhost (pins (F := F)) EP p d); iexact Hg
    · iapply (one_region fun d p => Pipeline.toksInit (pins (F := F)) EP p d); iexact Ht
  iapply (show (BI.emp : sProp 𝕄) ⊢ bigSep Finset.univ fun thr : Thread nD τ => bigSep Finset.univ fun q : Fin 1 => (P (F := F) m).x q thr from
    Entails.of_eq (by
      rw [show (bigSep Finset.univ fun thr : Thread nD τ => bigSep Finset.univ fun q : Fin 1 => (P (F := F) m).x q thr) = bigSep Finset.univ fun _ => (BI.emp : sProp 𝕄) from
        bigSep_congr fun _ _ => bigSep_univ_of_subsingleton (0 : Fin 1)]
      exact (BI.bigSep_emp_const _).symm))
  iempintro

/-! ## The TensorCore's program -/

/-- The arrays of the program, one by one. -/
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (a2Loc d ↦{fullShare} W main_arg2) ∗ (a3Loc d ↦{fullShare} W main_arg3) ∗ (a4Loc d ↦{fullShare} W main_arg4) ∗ (a5Loc d ↦{fullShare} W main_arg5)
      ∗ (xLoc d ↦{fullShare} W main_v0) ∗ (tLoc d ↦{fullShare} W main_v1) ∗ oLoc d ↦{fullShare} W main_v2) := by
  unfold unscopedBufs
  rw [show (Finset.univ.filter fun b : Ref sig .tc => ¬ b.isScoped)
      = {main_arg0, main_arg1, main_arg2, main_arg3, main_arg4, main_arg5, main_v0, main_v1, main_v2} by decide]
  repeat rw [SparseCore.bigSep_insert' (by decide)]
  rw [bigSep_singleton]

/-- The call's starts are the three buffers whole, and its ends are them again, the result written. -/
theorem starts_eq (d : Dev nD) : (bigSep Finset.univ fun c : Fin ((K (F := F)).nCore 0) => (P m).st 0 d c)
    = iprop((xLoc d ↦{fullShare} (xT m d : Buf (Elt F) (xLoc d))) ∗ (tLoc d ↦{fullShare} (tab m d : Buf (Elt F) (tLoc d))) ∗ (oLoc d ↦{fullShare} m (oLoc d))) := by
  rw [deal_all, by_core]
  rfl
/-- The ends, likewise. -/
theorem ends_eq (d : Dev nD) : (bigSep Finset.univ fun c : Fin ((K (F := F)).nCore 0) => (P m).dn 0 d c)
    = iprop((xLoc d ↦{fullShare} (xT m d : Buf (Elt F) (xLoc d))) ∗ (tLoc d ↦{fullShare} (tab m d : Buf (Elt F) (tLoc d))) ∗ (oLoc d ↦{fullShare} (out m d : Buf (Elt F) (oLoc d)))) := by
  rw [deal_all, by_core]
  rfl

/-- The program's transpose. -/
abbrev opT : HloOp τ sig (Elt F) := StableHlo.unary main_arg0 main_v0
  ((transpose S5x16384 [1, 0] · transposes_S16384x5_S5x16384_1_0) : (⟨S16384x5, .i32⟩ : BufTy).Contents (Elt F) → (⟨S5x16384, .i32⟩ : BufTy).Contents (Elt F))

/-- It reads the features and writes their transpose. -/
theorem opT_bufs (d : Dev nD) (V : Valuation τ sig (Elt F)) :
    (bigSep (opT (F := F)).bufs fun b => ((d, b) : Loc nD τ sig) ↦{fullShare} V b : sProp 𝕄)
      = iprop((a0Loc d ↦{fullShare} V (Proc.devRef .tc main_arg0)) ∗ (xLoc d ↦{fullShare} V (Proc.devRef .tc main_v0))) := by
  rw [StableHlo.unary_bufs, SparseCore.bigSep_insert' (by decide), bigSep_singleton]

/-- What the TensorCore keeps to the end: the arguments as they were and the result. -/
abbrev FIN (d : Dev nD) : sProp 𝕄 :=
  iprop((a0Loc d ↦{fullShare} m (a0Loc d)) ∗ (a1Loc d ↦{fullShare} m (a1Loc d)) ∗ (a2Loc d ↦{fullShare} m (a2Loc d)) ∗ (a3Loc d ↦{fullShare} m (a3Loc d)) ∗ (a4Loc d ↦{fullShare} m (a4Loc d)) ∗ (a5Loc d ↦{fullShare} m (a5Loc d)) ∗ (oLoc d ↦{fullShare} (out m d : Buf (Elt F) (oLoc d))))

/-- What the TensorCore holds between calls beside what it owes. -/
abbrev tcRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

/-- The TensorCore's state between calls: what it owes, and the rest. -/
theorem tcSt_eq (d : Dev nD) (n : ℕ) : ((K (F := F)).tcSt EH d n : sProp 𝕄)
    = iprop((∃ W, ⌜(K (F := F)).WBelow (SparseCore.T d) W (8 * SparseCore.Cfg.Blocks.fst (Q := 1) (N := 1) n)⌝ ∗ owes (SparseCore.T d) ((K (F := F)).Otc d n) W)
        ∗ tcRest d n) := rfl

/-- The TensorCore's program runs. -/
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨H0, H1, H2, H3, H4, H5, Hx, Ht, Ho⟩, Hts, -⟩, ⟨Hg, Htk⟩⟩
  iapply (wp_hlo 𝒱 (SparseCore.T d) none Set.univ (op := opT (F := F)) (q := fun _ => fullShare) (F := fun b => m (d, b)) (fun _ _ => rfl)) $$ [Hb H0 Hx]
  · isplitl [Hb]; · iexact Hb
    iapply (Entails.of_eq (opT_bufs d (fun b => m (d, b))).symm)
    isplitl [H0]; · iexact H0
    iexact Hx
  iintro ⟨Hb, Hbufs⟩
  ihave Hbufs' := (Entails.of_eq (opT_bufs d _)) $$ Hbufs
  icases Hbufs' with ⟨H0, Hx⟩
  rw [StableHlo.unary_result_ne _ _ _ _ _ _ (by decide), StableHlo.unary_result]
  simp only [wp_ret]
  imodintro
  -- the region
  ihave Hst' := (Entails.of_eq (tcSt_eq d 0)) $$ Hst
  icases Hst' with ⟨HO, Hst⟩
  ihave Hlev := (SparseCore.Cfg.ctx_levAts κ) $$ Hctx
  iapply ((K (F := F)).wp_liftProg (D (F := F)) 𝒱 (SparseCore.T d) Set.univ none (Prog.lift (.customCall (Pipeline.entry 0) ())) _)
  iapply (region_wp m d .ret _)
  isplitr [Hb H1 H2 H3 H4 H5 Ht HO Hlev Hg Htk]; swap
  · isplitl [Hb]; · iexact Hb
    isplitl [H1 H2 H3 H4 H5 Ht HO]
    · unfold regionSt
      isplitr [HO]
      · isplitl [H1]; · iexact H1
        isplitl [H2]; · iexact H2
        isplitl [H3]; · iexact H3
        isplitl [H4]; · iexact H4
        isplitl [H5]; · iexact H5
        iexact Ht
      iexact HO
    isplitl [Hlev]; · iexact Hlev
    isplitl [Hg]; · iexact Hg
    iexact Htk
  unfold regionSt
  iintro ⟨Hb, ⟨H1, H2, H3, H4, H5, Ht⟩, HO⟩
  simp only [wp_ret]
  imodintro
  -- the SparseCores' call
  iapply ((K (F := F)).wp_run (D (F := F)) 𝒱 (EH := EH) (P := P m) κ d 0)
  isplitr; · iexact Hctx
  isplitl [Hst HO]
  · iapply (Entails.of_eq (tcSt_eq d 0).symm)
    isplitl [HO]; · iexact HO
    iexact Hst
  isplitl [Hx Ht Ho]
  · iapply (Entails.of_eq (starts_eq m d).symm)
    isplitl [Hx]; · iexact Hx
    isplitl [Ht]; · iexact Ht
    iexact Ho
  iintro ⟨Hst, Hdn⟩
  ihave Hdn' := (Entails.of_eq (ends_eq m d)) $$ Hdn
  icases Hdn' with ⟨-, -, Ho⟩
  imodintro
  isplitl [Hst]; · iexact Hst
  isplitl [H0 H1 H2 H3 H4 H5 Ho]
  · isplitl [H0]; · iexact H0
    isplitl [H1]; · iexact H1
    isplitl [H2]; · iexact H2
    isplitl [H3]; · iexact H3
    isplitl [H4]; · iexact H4
    isplitl [H5]; · iexact H5
    iexact Ho
  isplitl [Hb]; · iexact Hb
  iexact Hts

/-! ## The memory it leaves -/

/-- What is read off a device's memory at the end. -/
def fq (d : Dev nD) (s : Phys nD τ sig (Elt F)) : Prop :=
  s.mem.mem (a0Loc d) = m (a0Loc d) ∧ s.mem.mem (a1Loc d) = m (a1Loc d) ∧ s.mem.mem (a2Loc d) = m (a2Loc d) ∧ s.mem.mem (a3Loc d) = m (a3Loc d) ∧ s.mem.mem (a4Loc d) = m (a4Loc d) ∧ s.mem.mem (a5Loc d) = m (a5Loc d) ∧ s.mem.mem (oLoc d) = (out m d : Buf (Elt F) (oLoc d))

set_option maxRecDepth 16384 in
/-- What the TensorCore keeps to the end is in the memory. -/
theorem hfin (d : Dev nD) (s' : Phys nD τ sig (Elt F)) : iprop(FIN m d ∗ SI s') ⊢ (⌜fq m d s'⌝ : sProp 𝕄) := by
  iintro ⟨⟨H0, H1, H2, H3, H4, H5, Ho⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (persistent_entails_right (SI_pointsTo_agree (st := s') (ℓ := a3Loc d) (I := Finset.univ) (q := fullShare) (f := m (a3Loc d)))) $$ [HSI H3]
  · isplitl [HSI] <;> iassumption
  icases H with ⟨%h3, HSI, -⟩
  ihave H := (persistent_entails_right (SI_pointsTo_agree (st := s') (ℓ := a4Loc d) (I := Finset.univ) (q := fullShare) (f := m (a4Loc d)))) $$ [HSI H4]
  · isplitl [HSI] <;> iassumption
  icases H with ⟨%h4, HSI, -⟩
  ihave H := (persistent_entails_right (SI_pointsTo_agree (st := s') (ℓ := a5Loc d) (I := Finset.univ) (q := fullShare) (f := m (a5Loc d)))) $$ [HSI H5]
  · isplitl [HSI] <;> iassumption
  icases H with ⟨%h5, HSI, -⟩
  ihave H := (SI_pointsTo_agree (st := s') (ℓ := oLoc d) (I := Finset.univ) (q := fullShare) (f := (out m d : Buf (Elt F) (oLoc d)))) $$ [HSI Ho]
  · isplitl [HSI] <;> iassumption
  icases H with %h6
  ipureintro
  exact ⟨funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i)⟩

/-- What a run ends with: the arguments as they were, the result the table's rows the codes name, the counters zero. -/
def QC : PUnit × MemSt nD τ sig (Elt F) → Prop := fun r =>
  (∀ d : Dev nD, r.2.mem (a0Loc d) = m (a0Loc d) ∧ r.2.mem (a1Loc d) = m (a1Loc d) ∧ r.2.mem (a2Loc d) = m (a2Loc d) ∧ r.2.mem (a3Loc d) = m (a3Loc d) ∧ r.2.mem (a4Loc d) = m (a4Loc d) ∧ r.2.mem (a5Loc d) = m (a5Loc d) ∧ r.2.mem (oLoc d) = (out m d : Buf (Elt F) (oLoc d))) ∧ r.2.sem = fun _ => 0

/-- Every run of the program, the features being below four, ends so. -/
theorem run_main [∀ e, Nonempty (Elt F e)] (h : Small m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts h)
    (fun q _ => match q with | 0 => SparseCore.Cfg.VecSplit.of_plain (vecSplit m))
    m ρ main (fun d => G d) (FIN m) (u₀ (F := F)) (sep_elim_left.trans (hu₀ m)) (hmain m ρ) (fq m) (hfin m) (QC m) (fun _ h hz => ⟨h, hz⟩)

end Cert.Proof.KI

end
-- ==== Proof.Encode.lean ====
/-
  The encoder's mathematics: a row of the result is the sum of one row of each of five tables, chosen by the row's five
  features; and the two facts about arrays by which the kernel's table of all combinations holds those sums.
-/
module

public import proofs.«01_k».proof.Proof.Spec
public import Idealize.ShloMosaic.PureOps
public import Idealize.ShloMosaic.Lib.ValueLayout

@[expose] public section

noncomputable section

namespace Cert.Proof.Encode

open Idealize.ShloMosaic Idealize.ShloMosaic.ValueIdx Cert.Proof.Spec

variable {F : FTy → Type} [FloatOps F]

/-- Entry `y` of the row of the table `a` that the word `w` names (reduced below the table's length). -/
def pick {α : Type} {n : ℕ} (hn : 0 < n) (a : (⟨2, ![n, 128]⟩ : Shape).Idx → α) (w : BitVec 32) (y : Fin 128) : α :=
  a (ix2 ⟨w.toNat % n, Nat.mod_lt _ hn⟩ y)

/-- A word below the table's length names the row of its own number. -/
theorem pick_eq {α : Type} {n : ℕ} (hn : 0 < n) (a : (⟨2, ![n, 128]⟩ : Shape).Idx → α) (w : BitVec 32) (y : Fin 128) (r : Fin n)
    (h : w.toNat = r.val) : pick hn a w y = a (ix2 r y) := by
  unfold pick
  rw [show (⟨w.toNat % n, Nat.mod_lt _ hn⟩ : Fin n) = r from Fin.ext (by rw [h]; exact Nat.mod_eq_of_lt r.isLt)]

/-- The encoder: entry `(p, y)` of the result is the sum, from the left, of the five tables' entries. -/
def encode (x : (⟨2, ![16384, 5]⟩ : Shape).Idx → BitVec 32) (a1 : (⟨2, ![20, 128]⟩ : Shape).Idx → F .f32)
    (a2 : (⟨2, ![200, 128]⟩ : Shape).Idx → F .f32) (a3 : (⟨2, ![4, 128]⟩ : Shape).Idx → F .f32)
    (a4 : (⟨2, ![10, 128]⟩ : Shape).Idx → F .f32) (a5 : (⟨2, ![50, 128]⟩ : Shape).Idx → F .f32) :
    (⟨2, ![16384, 128]⟩ : Shape).Idx → F .f32 := fun j =>
  FloatOps.addf (FloatOps.addf (FloatOps.addf (FloatOps.addf
    (pick (by decide) a1 (x (ix2 (j 0) 0)) (j 1)) (pick (by decide) a2 (x (ix2 (j 0) 1)) (j 1)))
    (pick (by decide) a3 (x (ix2 (j 0) 2)) (j 1))) (pick (by decide) a4 (x (ix2 (j 0) 3)) (j 1)))
    (pick (by decide) a5 (x (ix2 (j 0) 4)) (j 1))

/-! ## Four rows spread over 1024 -/

/-- Four rows spread over `A * 4 * B = 1024`: each repeated `B` times in a run, the runs repeated `A` times. Row `r` of the
    whole is the row of the digit `r / B % 4`. -/
theorem spread {α : Type} (A B : ℕ) (hB : 0 < B) (v : (⟨2, ![4, 128]⟩ : Shape).Idx → α)
    (h1 : (⟨2, ![4, 128]⟩ : Shape).ShapeCasts ⟨4, ![1, 4, 1, 128]⟩)
    (h2 : (⟨4, ![1, 4, 1, 128]⟩ : Shape).ShapeCasts ⟨4, ![1, 4, 1, 128]⟩)
    (hb : (⟨4, ![1, 4, 1, 128]⟩ : Shape).Broadcasts ⟨4, ![A, 4, B, 128]⟩)
    (h3 : (⟨4, ![A, 4, B, 128]⟩ : Shape).ShapeCasts ⟨2, ![1024, 128]⟩) (hA : A * 4 * B = 1024) (r : Fin 1024) (y : Fin 128) :
    shapeCast ⟨2, ![1024, 128]⟩ (broadcastTo ⟨4, ![A, 4, B, 128]⟩ (shapeCast ⟨4, ![1, 4, 1, 128]⟩ (shapeCast ⟨4, ![1, 4, 1, 128]⟩ v h1) h2) hb) h3 (ix2 r y)
      = v (ix2 ⟨r.val / B % 4, Nat.mod_lt _ (by decide)⟩ y) := by
  have hr : r.val < A * 4 * B := hA.symm ▸ r.isLt
  have hq : r.val / B < A * 4 := (Nat.div_lt_iff_lt_mul hB).mpr hr
  have ha : r.val / B / 4 < A := (Nat.div_lt_iff_lt_mul (by decide)).mpr hq
  rw [shapeCast_apply _ h3 (ix2 r y) (ix4 (n0 := A) (n1 := 4) (n2 := B) (n3 := 128) ⟨r.val / B / 4, ha⟩ ⟨r.val / B % 4, Nat.mod_lt _ (by decide)⟩ ⟨r.val % B, Nat.mod_lt _ hB⟩ y) (by
    rw [Shape.rowMajor_val_four, Shape.rowMajor_val_two]
    show ((r.val / B / 4 * 4 + r.val / B % 4) * B + r.val % B) * 128 + y.val = r.val * 128 + y.val
    rw [Nat.div_add_mod', Nat.div_add_mod'])]
  rw [show shapeCast ⟨4, ![1, 4, 1, 128]⟩ (shapeCast ⟨4, ![1, 4, 1, 128]⟩ v h1) h2 = shapeCast ⟨4, ![1, 4, 1, 128]⟩ v h1 from
    funext fun j => congrArg (shapeCast ⟨4, ![1, 4, 1, 128]⟩ v h1) (by rw [Shape.reshapeEquiv_self])]
  refine (congrArg (shapeCast ⟨4, ![1, 4, 1, 128]⟩ v h1) (show _ = ix4 (n0 := 1) (n1 := 4) (n2 := 1) (n3 := 128) 0 ⟨r.val / B % 4, Nat.mod_lt _ (by decide)⟩ 0 y from
    funext fun a => match a with | ⟨0, _⟩ => rfl | ⟨1, _⟩ => rfl | ⟨2, _⟩ => rfl | ⟨3, _⟩ => rfl)).trans ?_
  exact shapeCast_apply _ h1 _ _ (by
    rw [Shape.rowMajor_val_four, Shape.rowMajor_val_two]
    show r.val / B % 4 * 128 + y.val = ((0 * 4 + r.val / B % 4) * 1 + 0) * 128 + y.val
    omega)

/-- The digits of a code are its words. -/
theorem digits {w : Fin 5 → BitVec 32} (h : ∀ k, (w k).toNat < 4) (r : Fin 1024)
    (hr : r.val = 256 * (w 0).toNat + 64 * (w 1).toNat + 16 * (w 2).toNat + 4 * (w 3).toNat + (w 4).toNat) :
    r.val / 256 % 4 = (w 0).toNat ∧ r.val / 64 % 4 = (w 1).toNat ∧ r.val / 16 % 4 = (w 2).toNat ∧ r.val / 4 % 4 = (w 3).toNat
      ∧ r.val / 1 % 4 = (w 4).toNat := by
  have h0 := h 0; have h1 := h 1; have h2 := h 2; have h3 := h 3; have h4 := h 4
  refine ⟨?_, ?_, ?_, ?_, ?_⟩ <;> omega

end Cert.Proof.Encode

end
-- ==== Proof.KI.Value.lean ====
/-
  The kernel's result is the encoder's: the table's row of a row's code is the sum of the five tables' rows.
-/
module

public import proofs.«01_k».proof.Proof.KI.Pay
public import proofs.«01_k».proof.Proof.Encode

@[expose] public section

noncomputable section

namespace Cert.Proof.KI

open Cert.KernelIdeal Cert.KernelIdeal.Gen
open Idealize.ShloMosaic hiding ix2
open Idealize.ShloMosaic.ValueIdx
open Idealize.SL.Sem
open TcCoe
open Cert.Proof.Spec Cert.Proof.Encode

variable {F : FTy → Type} [FloatOps F]

/-- A row of the table of all combinations is the sum of the five rows its number's digits name. -/
theorem pay_apply (v0 v5 v11 v17 v23 : Vec F S4x128 .f32) (r : Fin 1024) (y : Fin 128) :
    k0_pay1 v0 v5 v11 v17 v23 (ix2 r y)
      = FloatOps.addf (FloatOps.addf (FloatOps.addf (FloatOps.addf (v0 (ix2 ⟨r.val / 256 % 4, Nat.mod_lt _ (by decide)⟩ y))
          (v5 (ix2 ⟨r.val / 64 % 4, Nat.mod_lt _ (by decide)⟩ y))) (v11 (ix2 ⟨r.val / 16 % 4, Nat.mod_lt _ (by decide)⟩ y)))
          (v17 (ix2 ⟨r.val / 4 % 4, Nat.mod_lt _ (by decide)⟩ y))) (v23 (ix2 ⟨r.val / 1 % 4, Nat.mod_lt _ (by decide)⟩ y)) :=
  congrArg₂ FloatOps.addf (congrArg₂ FloatOps.addf (congrArg₂ FloatOps.addf (congrArg₂ FloatOps.addf
    (spread 1 256 (by decide) v0 _ _ _ _ (by decide) r y) (spread 4 64 (by decide) v5 _ _ _ _ (by decide) r y))
    (spread 16 16 (by decide) v11 _ _ _ _ (by decide) r y)) (spread 64 4 (by decide) v17 _ _ _ _ (by decide) r y))
    (spread 256 1 (by decide) v23 _ _ _ _ (by decide) r y)

/-- The first four rows hold the row a word below four names. -/
theorem top_pick {n : ℕ} (hn : 0 < n) (h : 4 ≤ n) (a : (⟨2, ![n, 128]⟩ : Shape).Idx → Elt F .f32) (w : BitVec 32) (c : Fin 4) (y : Fin 128)
    (hw : c.val = w.toNat) : top h a (ix2 c y) = pick hn a w y :=
  (pick_eq hn a w y ⟨c.val, lt_of_lt_of_le c.isLt h⟩ hw.symm).symm

variable (m : (ℓ : Loc nD τ sig) → Buf (Elt F) ℓ)

/-- Where the features are below four the kernel's result is the encoder's. -/
theorem out_eq (h : Small m) (d : Dev nD) :
    out m d = encode (m (a0Loc d)) (m (a1Loc d)) (m (a2Loc d)) (m (a3Loc d)) (m (a4Loc d)) (m (a5Loc d)) := by
  funext j
  have hx : ∀ k : Fin 5, xT m d (ix2 k (j 0)) = m (a0Loc d) (ix2 (j 0) k) := fun k => transpose_ix2_apply _ _ k (j 0)
  have hs : ∀ k : Fin 5, (m (a0Loc d) (ix2 (j 0) k)).toNat < 4 := fun k => h d _
  have hr : (rowOf (rowCode (xT m d) (j 0))).val = 256 * (m (a0Loc d) (ix2 (j 0) 0)).toNat + 64 * (m (a0Loc d) (ix2 (j 0) 1)).toNat
      + 16 * (m (a0Loc d) (ix2 (j 0) 2)).toNat + 4 * (m (a0Loc d) (ix2 (j 0) 3)).toNat + (m (a0Loc d) (ix2 (j 0) 4)).toNat := by
    rw [rowOf_val (rowCode_lt (small_xT m h d) (j 0))]
    unfold rowCode
    rw [hx 0, hx 1, hx 2, hx 3, hx 4]
    exact codeW_toNat (hs 0) (hs 1) (hs 2) (hs 3) (hs 4)
  obtain ⟨e0, e1, e2, e3, e4⟩ := digits (w := fun k => m (a0Loc d) (ix2 (j 0) k)) hs _ hr
  show tab m d (ix2 (rowOf (rowCode (xT m d) (j 0))) (j 1)) = _
  generalize rowOf (rowCode (xT m d) (j 0)) = r at e0 e1 e2 e3 e4
  unfold tab table
  refine (pay_apply _ _ _ _ _ r (j 1)).trans ?_
  exact congrArg₂ FloatOps.addf (congrArg₂ FloatOps.addf (congrArg₂ FloatOps.addf (congrArg₂ FloatOps.addf
    (top_pick _ _ _ _ _ _ e0) (top_pick _ _ _ _ _ _ e1)) (pick_eq _ _ _ _ _ e2.symm).symm) (top_pick _ _ _ _ _ _ e3)) (top_pick _ _ _ _ _ _ e4)

end Cert.Proof.KI

end
-- ==== Proof.RefValue.lean ====
/-
  The reference's result is the encoder's: each of its five lookups, at features below four, reads the row the feature names.
-/
module

public import proofs.«01_k».proof.Proof.Encode
public import proofs.«01_k».proof.Proof.Gen.ReferenceIdeal.Run
public import Idealize.ShloMosaic.Lib.Routing.Ops
public import Idealize.ShloMosaic.Lib.ReduceAll

@[expose] public section

noncomputable section

namespace Cert.Proof.Ref

open Cert.ReferenceIdeal Cert.ReferenceIdeal.Gen Cert.ReferenceIdeal.Value
open Idealize.ShloMosaic Idealize.ShloMosaic.ValueIdx Idealize.SL.Sem
open Cert.Proof.Encode

variable {F : FTy → Type} [FloatOps F]

/-- The indices of a lookup, a negative one counted from the end of the table, as one column. -/
def wrapped (n : BitVec 32) (v : IVec S16384 32) : IVec S16384x1 32 :=
  broadcastInDim S16384x1 ![0] bcast_S16384_S16384x1_0
    (select (cmpi .slt v (broadcastInDim S16384 ![] bcast_S_S16384 (constantI S_ 32 0#32)))
      (addi v (broadcastInDim S16384 ![] bcast_S_S16384 (constantI S_ 32 n))) v)

/-- Which of them lie in the table. -/
def inTable (k : BitVec 32) (w : IVec S16384x1 32) : IVec S16384x1 1 :=
  andi (cmpi .sge w (broadcastInDim S16384x1 ![] bcast_S_S16384x1 (constantI S_ 32 0#32)))
    (cmpi .sle w (broadcastInDim S16384x1 ![0, 1] bcast_S1x1_S16384x1_0_1 (broadcastInDim S1x1 ![1] bcast_S1_S1x1_1 (constantI S1 32 k))))

/-- A lookup of rows of a table of `n` rows, as the reference writes it. -/
def look {N : ℕ} (d : GatherDims ⟨2, ![N, 128]⟩ S16384x1 S16384x128) (n k : BitVec 32) (a : FVec F ⟨2, ![N, 128]⟩ .f32) (v : IVec S16384 32) :
    FVec F S16384x128 .f32 :=
  select (broadcastInDim S16384x128 ![0] bcast_S16384_S16384x128_0
      (Host.reduce IntOp.andi (inTable k (wrapped n v)) (constantI S_ 1 1#1) reducesTo_S16384x1_S16384_d1 h_S_))
    (Host.gather d a (wrapped n v)) (broadcastInDim S16384x128 ![] bcast_S_S16384x128 (constant S_ .f32 0x7FC00000#32))

/-- Column `c` of the features. -/
def col (c : ℕ) (hs : S16384x5.Slices ![0, c] S16384x1) (x : IVec S16384x5 32) : IVec S16384 32 :=
  shapeCast S16384 (extractStridedSlice S16384x1 ![0, c] x hs) shapeCasts_S16384x1_S16384

set_option maxRecDepth 8192 in
/-- The reference's result is the sum of five lookups. -/
theorem res_eq (m : (ℓ : Loc nD τ sig) → Buf (Elt F) ℓ) (c : Dev nD) :
    res_main_v18 m c = addf (addf (addf (addf
      (look gather_S20x128_S16384x1_S16384x128_1_0_n_n_0_1_1128 20#32 19#32 (m ((c.tc : Thread nD τ).loc main_arg1)) (col 0 slices_S16384x5_S16384x1_0_0 (m ((c.tc : Thread nD τ).loc main_arg0))))
      (look gather_S200x128_S16384x1_S16384x128_1_0_n_n_0_1_1128 200#32 199#32 (m ((c.tc : Thread nD τ).loc main_arg2)) (col 1 slices_S16384x5_S16384x1_0_1 (m ((c.tc : Thread nD τ).loc main_arg0)))))
      (look gather_S4x128_S16384x1_S16384x128_1_0_n_n_0_1_1128 4#32 3#32 (m ((c.tc : Thread nD τ).loc main_arg3)) (col 2 slices_S16384x5_S16384x1_0_2 (m ((c.tc : Thread nD τ).loc main_arg0)))))
      (look gather_S10x128_S16384x1_S16384x128_1_0_n_n_0_1_1128 10#32 9#32 (m ((c.tc : Thread nD τ).loc main_arg4)) (col 3 slices_S16384x5_S16384x1_0_3 (m ((c.tc : Thread nD τ).loc main_arg0)))))
      (look gather_S50x128_S16384x1_S16384x128_1_0_n_n_0_1_1128 50#32 49#32 (m ((c.tc : Thread nD τ).loc main_arg5)) (col 4 slices_S16384x5_S16384x1_0_4 (m ((c.tc : Thread nD τ).loc main_arg0)))) := rfl

/-- An index below four is not negative, so it stays as it is. -/
theorem wrapped_apply (n : BitVec 32) (v : IVec S16384 32) (p : Fin 16384) (h : (v (ix1 p)).toNat < 4) : wrapped n v (ix2 p 0) = v (ix1 p) := by
  have e : IntOp.cmpi .slt (v (ix1 p)) 0#32 = 0#1 := by
    show BitVec.ofBool ((v (ix1 p)).slt 0#32) = 0#1
    rw [BitVec.slt_eq_decide, decide_eq_false (by rw [BitVec.toInt_eq_toNat_cond]; simp; omega)]
    rfl
  have hp : wrapped n v (ix2 p 0) = Scalar.select (IntOp.cmpi .slt (v (ix1 p)) 0#32) (IntOp.addi (v (ix1 p)) n) (v (ix1 p)) := by
    unfold wrapped
    exact broadcastInDim_apply _ _ _ _ (ix1 p) (fun a => match a with | ⟨0, _⟩ => rfl)
  rw [hp, e]
  rfl

/-- It lies in the table, whose last row is at least the third. -/
theorem inTable_apply (n k : BitVec 32) (hk : 3 ≤ k.toNat) (hk' : k.toNat < 2 ^ 31) (v : IVec S16384 32) (h : ∀ i, (v i).toNat < 4) (i : S16384x1.Idx) :
    inTable k (wrapped n v) i = 1#1 := by
  obtain ⟨p, rfl⟩ : ∃ p : Fin 16384, i = ix2 p 0 := ⟨i 0, (eq_ix2 i).trans (congrArg (ix2 (i 0)) (Subsingleton.elim (α := Fin 1) (i 1) 0))⟩
  show IntOp.andi (IntOp.cmpi .sge (wrapped n v (ix2 p 0)) 0#32) (IntOp.cmpi .sle (wrapped n v (ix2 p 0)) k) = 1#1
  rw [wrapped_apply n v p (h _)]
  have hv := h (ix1 p)
  have e1 : IntOp.cmpi .sge (v (ix1 p)) 0#32 = 1#1 := by
    show BitVec.ofBool ((0#32).sle (v (ix1 p))) = 1#1
    rw [BitVec.sle_eq_decide, decide_eq_true (by rw [BitVec.toInt_eq_toNat_cond, BitVec.toInt_eq_toNat_cond]; simp; omega)]
    rfl
  have e2 : IntOp.cmpi .sle (v (ix1 p)) k = 1#1 := by
    show BitVec.ofBool ((v (ix1 p)).sle k) = 1#1
    rw [BitVec.sle_eq_decide, decide_eq_true (by rw [BitVec.toInt_eq_toNat_cond, BitVec.toInt_eq_toNat_cond]; omega)]
    rfl
  rw [e1, e2]
  rfl

/-- A lookup at indices below four reads the rows they name. -/
theorem look_apply {N : ℕ} (d : GatherDims ⟨2, ![N, 128]⟩ S16384x1 S16384x128) (hoff : d.offsetDims = [1]) (hcoll : d.collapsedSliceDims = [0])
    (hob : d.operandBatchingDims = []) (hsim : d.startIndexMap = [0]) (hivd : d.indexVectorDim = 1) (hN0 : 0 < N) (hN : 4 ≤ N) (hN' : N < 2 ^ 31)
    (n k : BitVec 32) (hk : 3 ≤ k.toNat) (hk' : k.toNat < 2 ^ 31) (a : FVec F ⟨2, ![N, 128]⟩ .f32) (v : IVec S16384 32) (h : ∀ i, (v i).toNat < 4)
    (p : Fin 16384) (y : Fin 128) : look d n k a v (ix2 p y) = pick hN0 a (v (ix1 p)) y := by
  unfold look
  rw [select_apply, show broadcastInDim S16384x128 ![0] bcast_S16384_S16384x128_0 (Host.reduce IntOp.andi (inTable k (wrapped n v)) (constantI S_ 1 1#1) reducesTo_S16384x1_S16384_d1 h_S_) (ix2 p y) = 1#1 from
    Host.reduce_andi_one _ _ _ _ _ rfl (inTable_apply n k hk hk' v h), select_one,
    pick_eq hN0 a (v (ix1 p)) y ⟨(v (ix1 p)).toNat, lt_of_lt_of_le (h _) hN⟩ rfl]
  exact Idealize.ShloMosaic.Routing.gather_row d hoff hcoll hob hsim hivd a (wrapped n v) p y _ (by
    rw [wrapped_apply n v p (h _)]; exact (show BitVec.ofNat 32 (v (ix1 p)).toNat = v (ix1 p) by rw [BitVec.ofNat_toNat, BitVec.setWidth_eq]).symm) hN'

/-- A column of the features at a row. -/
theorem col_apply (c : ℕ) (hc : c < 5) (hs : S16384x5.Slices ![0, c] S16384x1) (x : IVec S16384x5 32) (p : Fin 16384) :
    col c hs x (ix1 p) = x (ix2 p ⟨c, hc⟩) := by
  unfold col
  rw [shapeCast_apply _ _ (ix1 p) (ix2 p (0 : Fin 1)) (by rw [Shape.rowMajor_val_two, Shape.rowMajor_val_one]; show p.val * 1 + 0 = p.val; omega)]
  exact congrArg x (funext fun a => Fin.ext (match a with
    | ⟨0, _⟩ => (show 0 + p.val = p.val by omega)
    | ⟨1, _⟩ => (show c + 0 = c by omega)))

/-- Where the features are below four the reference's result is the encoder's. -/
theorem ref_eq (m : (ℓ : Loc nD τ sig) → Buf (Elt F) ℓ) (c : Dev nD)
    (h : ∀ i, (m ((c.tc : Thread nD τ).loc main_arg0) i).toNat < 4) :
    res_main_v18 m c = encode (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  rw [res_eq]
  funext j
  obtain ⟨p, y, rfl⟩ : ∃ (p : Fin 16384) (y : Fin 128), j = ix2 p y := ⟨_, _, eq_ix2 j⟩
  have hc : ∀ k hk hs, ∀ i, (col k hs (m ((c.tc : Thread nD τ).loc main_arg0)) i).toNat < 4 := fun k hk hs i => by
    obtain ⟨q, rfl⟩ : ∃ q : Fin 16384, i = ix1 q := ⟨i 0, eq_ix1 i⟩
    rw [col_apply k hk hs]; exact h _
  refine congrArg₂ FloatOps.addf (congrArg₂ FloatOps.addf (congrArg₂ FloatOps.addf (congrArg₂ FloatOps.addf ?_ ?_) ?_) ?_) ?_
  · exact (look_apply _ rfl rfl rfl rfl rfl (by decide) (by decide) (by decide) _ _ (by decide) (by decide) _ _ (hc 0 (by decide) _) p y).trans
      (congrArg (pick _ _ · y) (col_apply 0 (by decide) _ _ p))
  · exact (look_apply _ rfl rfl rfl rfl rfl (by decide) (by decide) (by decide) _ _ (by decide) (by decide) _ _ (hc 1 (by decide) _) p y).trans
      (congrArg (pick _ _ · y) (col_apply 1 (by decide) _ _ p))
  · exact (look_apply _ rfl rfl rfl rfl rfl (by decide) (by decide) (by decide) _ _ (by decide) (by decide) _ _ (hc 2 (by decide) _) p y).trans
      (congrArg (pick _ _ · y) (col_apply 2 (by decide) _ _ p))
  · exact (look_apply _ rfl rfl rfl rfl rfl (by decide) (by decide) (by decide) _ _ (by decide) (by decide) _ _ (hc 3 (by decide) _) p y).trans
      (congrArg (pick _ _ · y) (col_apply 3 (by decide) _ _ p))
  · exact (look_apply _ rfl rfl rfl rfl rfl (by decide) (by decide) (by decide) _ _ (by decide) (by decide) _ _ (hc 4 (by decide) _) p y).trans
      (congrArg (pick _ _ · y) (col_apply 4 (by decide) _ _ p))

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Pre
public import proofs.«01_k».proof.Proof.K.Main
public import proofs.«01_k».proof.Proof.KI.Main
public import proofs.«01_k».proof.Proof.KI.Value
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem

/-- The kernel leaves its arguments as they were and every semaphore counter at zero. -/
theorem frame_kernel : Cert.quiescent_Kernel (hKernel := Cert.Kernel.Gen.facts) (hPre_in_range := Cert.Pre_in_range.Gen.facts) := fun m g h =>
  (θ_run Cert.Kernel.defs _ _).mono
    (fun _ hr => ⟨fun c => ⟨(hr.1 c).1, (hr.1 c).2.1, (hr.1 c).2.2.1, (hr.1 c).2.2.2.1, (hr.1 c).2.2.2.2.1, (hr.1 c).2.2.2.2.2.1⟩, hr.2⟩)
    (K.run_main (F := Bits) m g fun d i => Pre.small_of_fn _ _ _ _ _ _ (h d) i)

/-- The features of a memory the precondition admits are below four. -/
theorem small_ideal (m : (ℓ : Loc Cert.KernelIdeal.nD Cert.KernelIdeal.τ Cert.KernelIdeal.sig) → Buf (Elt Ideal) ℓ)
    (h : Cert.Pre_KernelIdeal (hPre_in_range := Cert.Pre_in_range.Gen.facts) m) : KI.Small m :=
  fun d i => Pre.small_of_fn _ _ _ _ _ _ (h d) i

/-- The same of the kernel read at the extended reals. -/
theorem frame_kernelIdeal : Cert.quiescent_KernelIdeal (hKernelIdeal := Cert.KernelIdeal.Gen.facts) (hPre_in_range := Cert.Pre_in_range.Gen.facts) := fun m g h =>
  (θ_run Cert.KernelIdeal.defs _ _).mono
    (fun _ hr => ⟨fun c => ⟨(hr.1 c).1, (hr.1 c).2.1, (hr.1 c).2.2.1, (hr.1 c).2.2.2.1, (hr.1 c).2.2.2.2.1, (hr.1 c).2.2.2.2.2.1⟩, hr.2⟩)
    (KI.run_main (F := Ideal) m g (small_ideal m h))

/-- The reference leaves its arguments as they were; it has no semaphore. -/
theorem frame_reference : Cert.quiescent_ReferenceIdeal (hReferenceIdeal := Cert.ReferenceIdeal.Gen.facts) := fun m g _ =>
  (θ_run Cert.ReferenceIdeal.defs _ _).mono
    (fun r hr => ⟨fun c => (hr c).2, sem_eq_zero_of_no_sems rfl _⟩)
    (Cert.ReferenceIdeal.Value.run (F := Ideal) m g)

/-- The kernel's result and the reference's are equal at the extended reals, both being the encoder's. -/
theorem value : Cert.algebraic_KernelIdeal_ReferenceIdeal (hKernelIdeal := Cert.KernelIdeal.Gen.facts)
    (hReferenceIdeal := Cert.ReferenceIdeal.Gen.facts) (hPre_in_range := Cert.Pre_in_range.Gen.facts) := fun m g m' g' h e => by
  refine ⟨fun c => KI.out m c, (θ_run Cert.KernelIdeal.defs _ _).mono
    (fun _ hr c => ⟨(hr.1 c).2.2.2.2.2.2, (hr.1 c).1, (hr.1 c).2.1, (hr.1 c).2.2.1, (hr.1 c).2.2.2.1, (hr.1 c).2.2.2.2.1, (hr.1 c).2.2.2.2.2.1⟩)
    (KI.run_main (F := Ideal) m g (small_ideal m h)), ?_⟩
  refine (θ_run Cert.ReferenceIdeal.defs _ _).mono (fun _ hr c => ⟨(hr c).1.trans ?_, (hr c).2⟩) (Cert.ReferenceIdeal.Value.run (F := Ideal) m' g')
  obtain ⟨e0, e1, e2, e3, e4, e5⟩ := e c
  rw [Ref.ref_eq m' c (fun i => by rw [e0]; exact small_ideal m h c i), e0, e1, e2, e3, e4, e5]
  exact (KI.out_eq m (small_ideal m h) c).symm

/-- The certificate's claim. -/
theorem claim : Cert.Claim := ⟨Cert.Kernel.Gen.facts, Cert.KernelIdeal.Gen.facts, Cert.ReferenceIdeal.Gen.facts, Cert.Pre_in_range.Gen.facts,
  frame_kernel, frame_kernelIdeal, frame_reference, fun m g _ => frame_reference m g trivial, trivial, value⟩

end Cert.Proof

end
